-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x128x1x512 : Shape := ⟨4, ![6, 128, 1, 512]⟩
abbrev S6x128x1 : Shape := ⟨3, ![6, 128, 1]⟩
abbrev S32x512 : Shape := ⟨2, ![32, 512]⟩
abbrev S32x512x7168 : Shape := ⟨3, ![32, 512, 7168]⟩
abbrev S7168 : Shape := ⟨1, ![7168]⟩
abbrev S7168x512 : Shape := ⟨2, ![7168, 512]⟩
abbrev S512 : Shape := ⟨1, ![512]⟩
abbrev S768x512 : Shape := ⟨2, ![768, 512]⟩
abbrev S6x1x128 : Shape := ⟨3, ![6, 1, 128]⟩
abbrev S16384x7168 : Shape := ⟨2, ![16384, 7168]⟩
abbrev S1x7168 : Shape := ⟨2, ![1, 7168]⟩
abbrev S1x512 : Shape := ⟨2, ![1, 512]⟩
abbrev S6x7x512 : Shape := ⟨3, ![6, 7, 512]⟩
abbrev S6x1x7 : Shape := ⟨3, ![6, 1, 7]⟩
abbrev S6x7x7168 : Shape := ⟨3, ![6, 7, 7168]⟩
abbrev S20x4096x512 : Shape := ⟨3, ![20, 4096, 512]⟩
abbrev S4x768x128 : Shape := ⟨3, ![4, 768, 128]⟩
abbrev S48x16384 : Shape := ⟨2, ![48, 16384]⟩
abbrev S48x7168 : Shape := ⟨2, ![48, 7168]⟩
abbrev S7 : Shape := ⟨1, ![7]⟩
abbrev S20 : Shape := ⟨1, ![20]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S768x128 : Shape := ⟨2, ![768, 128]⟩
abbrev S1x768x128 : Shape := ⟨3, ![1, 768, 128]⟩
abbrev S8x128 : Shape := ⟨2, ![8, 128]⟩
abbrev S1x1x128 : Shape := ⟨3, ![1, 1, 128]⟩
abbrev S1x128 : Shape := ⟨2, ![1, 128]⟩
abbrev S48x128 : Shape := ⟨2, ![48, 128]⟩
abbrev S48x1 : Shape := ⟨2, ![48, 1]⟩
abbrev S1x48x128 : Shape := ⟨3, ![1, 48, 128]⟩
abbrev S6x8x128 : Shape := ⟨3, ![6, 8, 128]⟩
abbrev S48x4096 : Shape := ⟨2, ![48, 4096]⟩
abbrev S48x512 : Shape := ⟨2, ![48, 512]⟩
abbrev S48 : Shape := ⟨1, ![48]⟩
abbrev S6x8x7168 : Shape := ⟨3, ![6, 8, 7168]⟩
abbrev S6x8x1 : Shape := ⟨3, ![6, 8, 1]⟩
abbrev S6x8x512 : Shape := ⟨3, ![6, 8, 512]⟩
abbrev S6x128 : Shape := ⟨2, ![6, 128]⟩
abbrev S6x7 : Shape := ⟨2, ![6, 7]⟩

abbrev nBuf : Space → Nat
  | .hbm => 20
  | .vmem => 16
  | .smem => 0
  | _ => 0

abbrev bufTy : (tb : Table) → Fin (tcTables nBuf tb) → BufTy
  | .hbm, ⟨0, _⟩ => ⟨S6x128x1x512, .fp8e4m3⟩
  | .hbm, ⟨1, _⟩ => ⟨S6x128x1, .f32⟩
  | .hbm, ⟨2, _⟩ => ⟨S32x512, .f32⟩
  | .hbm, ⟨3, _⟩ => ⟨S32x512x7168, .fp8e4m3⟩
  | .hbm, ⟨4, _⟩ => ⟨S7168, .f32⟩
  | .hbm, ⟨5, _⟩ => ⟨S7168, .f32⟩
  | .hbm, ⟨6, _⟩ => ⟨S7168x512, .fp8e4m3⟩
  | .hbm, ⟨7, _⟩ => ⟨S512, .f32⟩
  | .hbm, ⟨8, _⟩ => ⟨S512, .f32⟩
  | .hbm, ⟨9, _⟩ => ⟨S768x512, .fp8e4m3⟩
  | .hbm, ⟨10, _⟩ => ⟨S6x1x128, .f32⟩
  | .hbm, ⟨11, _⟩ => ⟨S16384x7168, .fp8e4m3⟩
  | .hbm, ⟨12, _⟩ => ⟨S1x7168, .f32⟩
  | .hbm, ⟨13, _⟩ => ⟨S1x7168, .f32⟩
  | .hbm, ⟨14, _⟩ => ⟨S1x512, .f32⟩
  | .hbm, ⟨15, _⟩ => ⟨S1x512, .f32⟩
  | .hbm, ⟨16, _⟩ => ⟨S6x7x512, .fp8e4m3⟩
  | .hbm, ⟨17, _⟩ => ⟨S6x1x7, .f32⟩
  | .hbm, ⟨18, _⟩ => ⟨S6x7x7168, .fp8e4m3⟩
  | .hbm, ⟨19, _⟩ => ⟨S6x1x7, .f32⟩
  | .local _ .vmem, ⟨0, _⟩ => ⟨S6x7x512, .fp8e4m3⟩
  | .local _ .vmem, ⟨1, _⟩ => ⟨S6x1x7, .f32⟩
  | .local _ .vmem, ⟨2, _⟩ => ⟨S6x7x7168, .fp8e4m3⟩
  | .local _ .vmem, ⟨3, _⟩ => ⟨S6x1x7, .f32⟩
  | .local _ .vmem, ⟨4, _⟩ => ⟨S20x4096x512, .fp8e4m3⟩
  | .local _ .vmem, ⟨5, _⟩ => ⟨S768x512, .fp8e4m3⟩
  | .local _ .vmem, ⟨6, _⟩ => ⟨S6x1x128, .f32⟩
  | .local _ .vmem, ⟨7, _⟩ => ⟨S32x512, .f32⟩
  | .local _ .vmem, ⟨8, _⟩ => ⟨S1x7168, .f32⟩
  | .local _ .vmem, ⟨9, _⟩ => ⟨S1x7168, .f32⟩
  | .local _ .vmem, ⟨10, _⟩ => ⟨S7168x512, .fp8e4m3⟩
  | .local _ .vmem, ⟨11, _⟩ => ⟨S1x512, .f32⟩
  | .local _ .vmem, ⟨12, _⟩ => ⟨S1x512, .f32⟩
  | .local _ .vmem, ⟨13, _⟩ => ⟨S4x768x128, .f32⟩
  | .local _ .vmem, ⟨14, _⟩ => ⟨S48x16384, .bf16⟩
  | .local _ .vmem, ⟨15, _⟩ => ⟨S48x7168, .f32⟩
  | _, _ => ⟨S6x128x1x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32_4 : BitVec 32 := 0#32
  c0_i32_4
def k0_off1 (c0_i32_0 : BitVec 32) (c0_i32_3 : BitVec 32) : Fin 1 → Nat :=
  let c5_i32_1 : BitVec 32 := 5#32
  let v14 : BitVec 32 := Scalar.remsi c0_i32_0 c5_i32_1
  let c4_i32_2 : BitVec 32 := 4#32
  let v15 : BitVec 32 := Scalar.muli v14 c4_i32_2
  let v16 : BitVec 32 := Scalar.addi v15 c0_i32_3
  ![v16.toNat]
def k0_off2 (c0_i32_0 : BitVec 32) (c0_i32_3 : BitVec 32) : Fin 3 → Nat :=
  let c5_i32_1 : BitVec 32 := 5#32
  let v14 : BitVec 32 := Scalar.remsi c0_i32_0 c5_i32_1
  let c4_i32_2 : BitVec 32 := 4#32
  let v15 : BitVec 32 := Scalar.muli v14 c4_i32_2
  let v16 : BitVec 32 := Scalar.addi v15 c0_i32_3
  let c0_i32_5 : BitVec 32 := 0#32
  let c0_i32_6 : BitVec 32 := 0#32
  ![v16.toNat, 0, 0]
def k0_mult2 : BitVec 32 :=
  let c0_i32_12 : BitVec 32 := 0#32
  c0_i32_12
def k0_mult3 : BitVec 32 :=
  let c0_i32_19 : BitVec 32 := 0#32
  c0_i32_19
def k0_mult4 : BitVec 32 :=
  let c0_i32_26 : BitVec 32 := 0#32
  c0_i32_26
def k0_mult5 : BitVec 32 :=
  let c512_i32 : BitVec 32 := 512#32
  c512_i32
def k0_mult6 : BitVec 32 :=
  let c512_i32_40 : BitVec 32 := 512#32
  c512_i32_40
def k0_mult7 : BitVec 32 :=
  let c512_i32_48 : BitVec 32 := 512#32
  c512_i32_48
def k0_mult8 : BitVec 32 :=
  let c512_i32_56 : BitVec 32 := 512#32
  c512_i32_56
def k0_mult9 : BitVec 32 :=
  let c1024_i32 : BitVec 32 := 1024#32
  c1024_i32
def k0_mult10 : BitVec 32 :=
  let c1024_i32_71 : BitVec 32 := 1024#32
  c1024_i32_71
def k0_mult11 : BitVec 32 :=
  let c1024_i32_79 : BitVec 32 := 1024#32
  c1024_i32_79
def k0_mult12 : BitVec 32 :=
  let c1024_i32_87 : BitVec 32 := 1024#32
  c1024_i32_87
def k0_mult13 : BitVec 32 :=
  let c1536_i32 : BitVec 32 := 1536#32
  c1536_i32
def k0_mult14 : BitVec 32 :=
  let c1536_i32_102 : BitVec 32 := 1536#32
  c1536_i32_102
def k0_mult15 : BitVec 32 :=
  let c1536_i32_110 : BitVec 32 := 1536#32
  c1536_i32_110
def k0_mult16 : BitVec 32 :=
  let c1536_i32_118 : BitVec 32 := 1536#32
  c1536_i32_118
def k0_mult17 : BitVec 32 :=
  let c2048_i32 : BitVec 32 := 2048#32
  c2048_i32
def k0_mult18 : BitVec 32 :=
  let c2048_i32_133 : BitVec 32 := 2048#32
  c2048_i32_133
def k0_mult19 : BitVec 32 :=
  let c2048_i32_141 : BitVec 32 := 2048#32
  c2048_i32_141
def k0_mult20 : BitVec 32 :=
  let c2048_i32_149 : BitVec 32 := 2048#32
  c2048_i32_149
@[reducible] def k0_t1_loop : Scf.Loop 32 :=
  let c0_i32_834 : BitVec 32 := 0#32
  let c14_i32 : BitVec 32 := 14#32
  let v1657 : BitVec 32 := Scalar.addi c0_i32_834 c14_i32
  let c1_i32_835 : BitVec 32 := 1#32
  ⟨c0_i32_834, v1657, c1_i32_835⟩
def k0_mult21 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c512_i32_925 : BitVec 32 := 512#32
  let v1900 : BitVec 32 := Scalar.muli arg28 c512_i32_925
  v1900
def k0_off3 (k0_t1 : Fin k0_t1_loop.trips) (c0_i32_924 : BitVec 32) : Fin 1 → Nat :=
  let c0_i32_834 : BitVec 32 := 0#32
  let c1_i32_835 : BitVec 32 := 1#32
  let arg28 : BitVec 32 := Scf.iv c0_i32_834 c1_i32_835 k0_t1
  let c5_i32_922 : BitVec 32 := 5#32
  let v1897 : BitVec 32 := Scalar.remsi arg28 c5_i32_922
  let c4_i32_923 : BitVec 32 := 4#32
  let v1898 : BitVec 32 := Scalar.muli v1897 c4_i32_923
  let v1899 : BitVec 32 := Scalar.addi v1898 c0_i32_924
  ![v1899.toNat]
def k0_off4 (k0_t1 : Fin k0_t1_loop.trips) (c0_i32_924 : BitVec 32) : Fin 3 → Nat :=
  let c0_i32_834 : BitVec 32 := 0#32
  let c1_i32_835 : BitVec 32 := 1#32
  let arg28 : BitVec 32 := Scf.iv c0_i32_834 c1_i32_835 k0_t1
  let c5_i32_922 : BitVec 32 := 5#32
  let v1897 : BitVec 32 := Scalar.remsi arg28 c5_i32_922
  let c4_i32_923 : BitVec 32 := 4#32
  let v1898 : BitVec 32 := Scalar.muli v1897 c4_i32_923
  let v1899 : BitVec 32 := Scalar.addi v1898 c0_i32_924
  let c0_i32_926 : BitVec 32 := 0#32
  let c0_i32_927 : BitVec 32 := 0#32
  ![v1899.toNat, 0, 0]
def k0_off5 (k0_t1 : Fin k0_t1_loop.trips) : Fin 2 → Nat :=
  let c0_i32_928 : BitVec 32 := 0#32
  let c0_i32_834 : BitVec 32 := 0#32
  let c1_i32_835 : BitVec 32 := 1#32
  let arg28 : BitVec 32 := Scf.iv c0_i32_834 c1_i32_835 k0_t1
  let c512_i32_925 : BitVec 32 := 512#32
  let v1900 : BitVec 32 := Scalar.muli arg28 c512_i32_925
  let v1901 : BitVec 32 := v1900
  ![0, v1901.toNat]
def k0_off6 (k0_t1 : Fin k0_t1_loop.trips) (c0_i32_931 : BitVec 32) : Fin 3 → Nat :=
  let c0_i32_834 : BitVec 32 := 0#32
  let c1_i32_835 : BitVec 32 := 1#32
  let arg28 : BitVec 32 := Scf.iv c0_i32_834 c1_i32_835 k0_t1
  let c5_i32_929 : BitVec 32 := 5#32
  let v1907 : BitVec 32 := Scalar.remsi arg28 c5_i32_929
  let c4_i32_930 : BitVec 32 := 4#32
  let v1908 : BitVec 32 := Scalar.muli v1907 c4_i32_930
  let v1909 : BitVec 32 := Scalar.addi v1908 c0_i32_931
  let v1911 : Index := Scalar.indexCast v1909
  let c0_934 : Index := 0#32
  let c0_935 : Index := 0#32
  ![v1911.toNat, 0, 0]
def k0_cond1 (k0_t1 : Fin k0_t1_loop.trips) : BitVec 1 :=
  let c0_i32_834 : BitVec 32 := 0#32
  let c1_i32_835 : BitVec 32 := 1#32
  let arg28 : BitVec 32 := Scf.iv c0_i32_834 c1_i32_835 k0_t1
  let c5_i32_937 : BitVec 32 := 5#32
  let v1915 : BitVec 32 := Scalar.addi arg28 c5_i32_937
  let c14_i32_938 : BitVec 32 := 14#32
  let v1916 : BitVec 1 := Scalar.cmpi .slt v1915 c14_i32_938
  let v1917 : BitVec 32 := Scalar.extui v1916
  let c0_i32_939 : BitVec 32 := 0#32
  let v1918 : BitVec 1 := Scalar.cmpi .ne v1917 c0_i32_939
  v1918

def k0_mult22 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  v2122
def k0_off7 (k0_t1 : Fin k0_t1_loop.trips) : Fin 1 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c0_i32_1039 : BitVec 32 := 0#32
  let v2121 : BitVec 32 := Scalar.addi v2120 c0_i32_1039
  ![v2121.toNat]
def k0_off8 (k0_t1 : Fin k0_t1_loop.trips) : Fin 3 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c0_i32_1039 : BitVec 32 := 0#32
  let v2121 : BitVec 32 := Scalar.addi v2120 c0_i32_1039
  let c0_i32_1041 : BitVec 32 := 0#32
  let c0_i32_1042 : BitVec 32 := 0#32
  ![v2121.toNat, 0, 0]
def k0_off9 (k0_t1 : Fin k0_t1_loop.trips) : Fin 2 → Nat :=
  let c0_i32_1043 : BitVec 32 := 0#32
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  let v2123 : BitVec 32 := v2122
  ![0, v2123.toNat]
def k0_mult23 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c512_i32_943 : BitVec 32 := 512#32
  let v1922 : BitVec 32 := Scalar.muli arg28 c512_i32_943
  v1922
def k0_off10 (k0_t1 : Fin k0_t1_loop.trips) : Fin 2 → Nat :=
  let c4096_i32_946 : BitVec 32 := 4096#32
  let c0_i32_834 : BitVec 32 := 0#32
  let c1_i32_835 : BitVec 32 := 1#32
  let arg28 : BitVec 32 := Scf.iv c0_i32_834 c1_i32_835 k0_t1
  let c512_i32_943 : BitVec 32 := 512#32
  let v1922 : BitVec 32 := Scalar.muli arg28 c512_i32_943
  let v1923 : BitVec 32 := v1922
  ![4096, v1923.toNat]
def k0_cond2 (k0_t1 : Fin k0_t1_loop.trips) : BitVec 1 :=
  let c0_i32_834 : BitVec 32 := 0#32
  let c1_i32_835 : BitVec 32 := 1#32
  let arg28 : BitVec 32 := Scf.iv c0_i32_834 c1_i32_835 k0_t1
  let c5_i32_955 : BitVec 32 := 5#32
  let v1938 : BitVec 32 := Scalar.addi arg28 c5_i32_955
  let c14_i32_956 : BitVec 32 := 14#32
  let v1939 : BitVec 1 := Scalar.cmpi .slt v1938 c14_i32_956
  let v1940 : BitVec 32 := Scalar.extui v1939
  let c0_i32_957 : BitVec 32 := 0#32
  let v1941 : BitVec 1 := Scalar.cmpi .ne v1940 c0_i32_957
  v1941

def k0_mult24 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  v2122
def k0_off11 (k0_t1 : Fin k0_t1_loop.trips) : Fin 1 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c1_i32_1039 : BitVec 32 := 1#32
  let v2121 : BitVec 32 := Scalar.addi v2120 c1_i32_1039
  ![v2121.toNat]
def k0_off12 (k0_t1 : Fin k0_t1_loop.trips) : Fin 3 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c1_i32_1039 : BitVec 32 := 1#32
  let v2121 : BitVec 32 := Scalar.addi v2120 c1_i32_1039
  let c0_i32_1041 : BitVec 32 := 0#32
  let c0_i32_1042 : BitVec 32 := 0#32
  ![v2121.toNat, 0, 0]
def k0_off13 (k0_t1 : Fin k0_t1_loop.trips) : Fin 2 → Nat :=
  let c4096_i32_1043 : BitVec 32 := 4096#32
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  let v2123 : BitVec 32 := v2122
  ![4096, v2123.toNat]
def k0_mult25 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c512_i32_961 : BitVec 32 := 512#32
  let v1945 : BitVec 32 := Scalar.muli arg28 c512_i32_961
  v1945
def k0_off14 (k0_t1 : Fin k0_t1_loop.trips) : Fin 2 → Nat :=
  let c8192_i32_964 : BitVec 32 := 8192#32
  let c0_i32_834 : BitVec 32 := 0#32
  let c1_i32_835 : BitVec 32 := 1#32
  let arg28 : BitVec 32 := Scf.iv c0_i32_834 c1_i32_835 k0_t1
  let c512_i32_961 : BitVec 32 := 512#32
  let v1945 : BitVec 32 := Scalar.muli arg28 c512_i32_961
  let v1946 : BitVec 32 := v1945
  ![8192, v1946.toNat]
def k0_cond3 (k0_t1 : Fin k0_t1_loop.trips) : BitVec 1 :=
  let c0_i32_834 : BitVec 32 := 0#32
  let c1_i32_835 : BitVec 32 := 1#32
  let arg28 : BitVec 32 := Scf.iv c0_i32_834 c1_i32_835 k0_t1
  let c5_i32_973 : BitVec 32 := 5#32
  let v1961 : BitVec 32 := Scalar.addi arg28 c5_i32_973
  let c14_i32_974 : BitVec 32 := 14#32
  let v1962 : BitVec 1 := Scalar.cmpi .slt v1961 c14_i32_974
  let v1963 : BitVec 32 := Scalar.extui v1962
  let c0_i32_975 : BitVec 32 := 0#32
  let v1964 : BitVec 1 := Scalar.cmpi .ne v1963 c0_i32_975
  v1964

def k0_mult26 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  v2122
def k0_off15 (k0_t1 : Fin k0_t1_loop.trips) : Fin 1 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c2_i32_1039 : BitVec 32 := 2#32
  let v2121 : BitVec 32 := Scalar.addi v2120 c2_i32_1039
  ![v2121.toNat]
def k0_off16 (k0_t1 : Fin k0_t1_loop.trips) : Fin 3 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c2_i32_1039 : BitVec 32 := 2#32
  let v2121 : BitVec 32 := Scalar.addi v2120 c2_i32_1039
  let c0_i32_1041 : BitVec 32 := 0#32
  let c0_i32_1042 : BitVec 32 := 0#32
  ![v2121.toNat, 0, 0]
def k0_off17 (k0_t1 : Fin k0_t1_loop.trips) : Fin 2 → Nat :=
  let c8192_i32_1043 : BitVec 32 := 8192#32
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  let v2123 : BitVec 32 := v2122
  ![8192, v2123.toNat]
def k0_mult27 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c512_i32_979 : BitVec 32 := 512#32
  let v1968 : BitVec 32 := Scalar.muli arg28 c512_i32_979
  v1968
def k0_off18 (k0_t1 : Fin k0_t1_loop.trips) : Fin 2 → Nat :=
  let c12288_i32_982 : BitVec 32 := 12288#32
  let c0_i32_834 : BitVec 32 := 0#32
  let c1_i32_835 : BitVec 32 := 1#32
  let arg28 : BitVec 32 := Scf.iv c0_i32_834 c1_i32_835 k0_t1
  let c512_i32_979 : BitVec 32 := 512#32
  let v1968 : BitVec 32 := Scalar.muli arg28 c512_i32_979
  let v1969 : BitVec 32 := v1968
  ![12288, v1969.toNat]
def k0_cond4 (k0_t1 : Fin k0_t1_loop.trips) : BitVec 1 :=
  let c0_i32_834 : BitVec 32 := 0#32
  let c1_i32_835 : BitVec 32 := 1#32
  let arg28 : BitVec 32 := Scf.iv c0_i32_834 c1_i32_835 k0_t1
  let c5_i32_991 : BitVec 32 := 5#32
  let v1984 : BitVec 32 := Scalar.addi arg28 c5_i32_991
  let c14_i32_992 : BitVec 32 := 14#32
  let v1985 : BitVec 1 := Scalar.cmpi .slt v1984 c14_i32_992
  let v1986 : BitVec 32 := Scalar.extui v1985
  let c0_i32_993 : BitVec 32 := 0#32
  let v1987 : BitVec 1 := Scalar.cmpi .ne v1986 c0_i32_993
  v1987

def k0_mult28 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  v2122
def k0_off19 (k0_t1 : Fin k0_t1_loop.trips) : Fin 1 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c3_i32_1039 : BitVec 32 := 3#32
  let v2121 : BitVec 32 := Scalar.addi v2120 c3_i32_1039
  ![v2121.toNat]
def k0_off20 (k0_t1 : Fin k0_t1_loop.trips) : Fin 3 → Nat :=
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c5_i32_1037 : BitVec 32 := 5#32
  let v2119 : BitVec 32 := Scalar.remsi v2118 c5_i32_1037
  let c4_i32_1038 : BitVec 32 := 4#32
  let v2120 : BitVec 32 := Scalar.muli v2119 c4_i32_1038
  let c3_i32_1039 : BitVec 32 := 3#32
  let v2121 : BitVec 32 := Scalar.addi v2120 c3_i32_1039
  let c0_i32_1041 : BitVec 32 := 0#32
  let c0_i32_1042 : BitVec 32 := 0#32
  ![v2121.toNat, 0, 0]
def k0_off21 (k0_t1 : Fin k0_t1_loop.trips) : Fin 2 → Nat :=
  let c12288_i32_1043 : BitVec 32 := 12288#32
  let c0_i32_834 : BitVec 32 := 0#32
  let c1_i32_835 : BitVec 32 := 1#32
  let arg28 : BitVec 32 := Scf.iv c0_i32_834 c1_i32_835 k0_t1
  let c5_i32_1036 : BitVec 32 := 5#32
  let v2118 : BitVec 32 := Scalar.addi arg28 c5_i32_1036
  let c512_i32_1040 : BitVec 32 := 512#32
  let v2122 : BitVec 32 := Scalar.muli v2118 c512_i32_1040
  let v2123 : BitVec 32 := v2122
  ![12288, v2123.toNat]
def k0_mult29 (k0_t1 : Fin k0_t1_loop.trips) : BitVec 32 :=
  let c0_i32_834 : BitVec 32 := 0#32
  let c1_i32_835 : BitVec 32 := 1#32
  let arg28 : BitVec 32 := Scf.iv c0_i32_834 c1_i32_835 k0_t1
  let c512_i32_994 : BitVec 32 := 512#32
  let v1988 : BitVec 32 := Scalar.muli arg28 c512_i32_994
  v1988
def k0_off22 (k0_t1 : Fin k0_t1_loop.trips) : Fin 2 → Nat :=
  let c0_995 : Index := 0#32
  let c0_i32_834 : BitVec 32 := 0#32
  let c1_i32_835 : BitVec 32 := 1#32
  let arg28 : BitVec 32 := Scf.iv c0_i32_834 c1_i32_835 k0_t1
  let c512_i32_994 : BitVec 32 := 512#32
  let v1988 : BitVec 32 := Scalar.muli arg28 c512_i32_994
  let v1989 : BitVec 32 := v1988
  let v1990 : Index := Scalar.indexCast v1989
  ![0, v1990.toNat]
def k0_off23 (k0_t1 : Fin k0_t1_loop.trips) : Fin 2 → Nat :=
  let c0_1035 : Index := 0#32
  let c0_i32_834 : BitVec 32 := 0#32
  let c1_i32_835 : BitVec 32 := 1#32
  let arg28 : BitVec 32 := Scf.iv c0_i32_834 c1_i32_835 k0_t1
  let c512_i32_994 : BitVec 32 := 512#32
  let v1988 : BitVec 32 := Scalar.muli arg28 c512_i32_994
  let v1989 : BitVec 32 := v1988
  let v2102 : Index := Scalar.indexCast v1989
  ![0, v2102.toNat]
abbrev stage0_0 : Fin 1 → Memref sig .tc .vmem S6x7x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x7x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S6x128x1x512 : Shape := ⟨4, ![6, 128, 1, 512]⟩
abbrev S6x128x1 : Shape := ⟨3, ![6, 128, 1]⟩
abbrev S32x512 : Shape := ⟨2, ![32, 512]⟩
abbrev S32x512x7168 : Shape := ⟨3, ![32, 512, 7168]⟩
abbrev S7168 : Shape := ⟨1, ![7168]⟩
abbrev S7168x512 : Shape := ⟨2, ![7168, 512]⟩
abbrev S512 : Shape := ⟨1, ![512]⟩
abbrev S6x128x512 : Shape := ⟨3, ![6, 128, 512]⟩
abbrev S16384x7168 : Shape := ⟨2, ![16384, 7168]⟩
abbrev S1x7168 : Shape := ⟨2, ![1, 7168]⟩
abbrev S1x512 : Shape := ⟨2, ![1, 512]⟩
abbrev S6x7x512 : Shape := ⟨3, ![6, 7, 512]⟩
abbrev S6x1x7 : Shape := ⟨3, ![6, 1, 7]⟩
abbrev S6x7x7168 : Shape := ⟨3, ![6, 7, 7168]⟩
abbrev S6x8x16x512 : Shape := ⟨4, ![6, 8, 16, 512]⟩
abbrev S6x7x16x512 : Shape := ⟨4, ![6, 7, 16, 512]⟩
abbrev S6x7x32x512 : Shape := ⟨4, ![6, 7, 32, 512]⟩
abbrev S1x1x32x512 : Shape := ⟨4, ![1, 1, 32, 512]⟩
abbrev S42x16384 : Shape := ⟨2, ![42, 16384]⟩
abbrev S42x7168 : Shape := ⟨2, ![42, 7168]⟩
abbrev S42 : Shape := ⟨1, ![42]⟩
abbrev S42x1 : Shape := ⟨2, ![42, 1]⟩
abbrev S1x254 : Shape := ⟨2, ![1, 254]⟩
abbrev S42x254 : Shape := ⟨2, ![42, 254]⟩
abbrev S42x512 : Shape := ⟨2, ![42, 512]⟩

abbrev nBuf : Space → Nat
  | .hbm => 19
  | .vmem => 13
  | .smem => 0
  | _ => 0

abbrev bufTy : (tb : Table) → Fin (tcTables nBuf tb) → BufTy
  | .hbm, ⟨0, _⟩ => ⟨S6x128x1x512, .fp8e4m3⟩
  | .hbm, ⟨1, _⟩ => ⟨S6x128x1, .f32⟩
  | .hbm, ⟨2, _⟩ => ⟨S32x512, .f32⟩
  | .hbm, ⟨3, _⟩ => ⟨S32x512x7168, .fp8e4m3⟩
  | .hbm, ⟨4, _⟩ => ⟨S7168, .f32⟩
  | .hbm, ⟨5, _⟩ => ⟨S7168, .f32⟩
  | .hbm, ⟨6, _⟩ => ⟨S7168x512, .fp8e4m3⟩
  | .hbm, ⟨7, _⟩ => ⟨S512, .f32⟩
  | .hbm, ⟨8, _⟩ => ⟨S512, .f32⟩
  | .hbm, ⟨9, _⟩ => ⟨S6x128x512, .fp8e4m3⟩
  | .hbm, ⟨10, _⟩ => ⟨S16384x7168, .fp8e4m3⟩
  | .hbm, ⟨11, _⟩ => ⟨S1x7168, .f32⟩
  | .hbm, ⟨12, _⟩ => ⟨S1x7168, .f32⟩
  | .hbm, ⟨13, _⟩ => ⟨S1x512, .f32⟩
  | .hbm, ⟨14, _⟩ => ⟨S1x512, .f32⟩
  | .hbm, ⟨15, _⟩ => ⟨S6x7x512, .fp8e4m3⟩
  | .hbm, ⟨16, _⟩ => ⟨S6x1x7, .f32⟩
  | .hbm, ⟨17, _⟩ => ⟨S6x7x7168, .fp8e4m3⟩
  | .hbm, ⟨18, _⟩ => ⟨S6x1x7, .f32⟩
  | .local _ .vmem, ⟨0, _⟩ => ⟨S6x128x512, .fp8e4m3⟩
  | .local _ .vmem, ⟨1, _⟩ => ⟨S6x128x1, .f32⟩
  | .local _ .vmem, ⟨2, _⟩ => ⟨S32x512, .f32⟩
  | .local _ .vmem, ⟨3, _⟩ => ⟨S16384x7168, .fp8e4m3⟩
  | .local _ .vmem, ⟨4, _⟩ => ⟨S1x7168, .f32⟩
  | .local _ .vmem, ⟨5, _⟩ => ⟨S1x7168, .f32⟩
  | .local _ .vmem, ⟨6, _⟩ => ⟨S7168x512, .fp8e4m3⟩
  | .local _ .vmem, ⟨7, _⟩ => ⟨S1x512, .f32⟩
  | .local _ .vmem, ⟨8, _⟩ => ⟨S1x512, .f32⟩
  | .local _ .vmem, ⟨9, _⟩ => ⟨S6x7x512, .fp8e4m3⟩
  | .local _ .vmem, ⟨10, _⟩ => ⟨S6x1x7, .f32⟩
  | .local _ .vmem, ⟨11, _⟩ => ⟨S6x7x7168, .fp8e4m3⟩
  | .local _ .vmem, ⟨12, _⟩ => ⟨S6x1x7, .f32⟩
  | _, _ => ⟨S6x128x1x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6x128x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x7x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1x7 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x7x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1x7 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Run.Names.lean ====
/-
  Hand-written, untrusted. The names the run's modules share: the buffers the kernel takes, its 28 transfer cells,
  the ring's slot `j` and the slot's cell in one canonical spelling, the block of the first weight a slab and a chunk name, and what the
  printed offsets of the slab loop are in those terms.
-/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Ring.Trips
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The buffers -/

/-- The operands left in HBM: codes, scales, positions, first weight and its scale and bias, second weight and its. -/
abbrev hKc : Memref sig .tc .hbm S768x512 .fp8e4m3 := Memref.whole main_v0
abbrev hKs : Memref sig .tc .hbm S6x1x128 .f32 := Memref.whole main_v1
abbrev hPos : Memref sig .tc .hbm S32x512 .f32 := Memref.whole main_arg2
abbrev hW1 : Memref sig .tc .hbm S16384x7168 .fp8e4m3 := Memref.whole main_v2
abbrev hS1 : Memref sig .tc .hbm S1x7168 .f32 := Memref.whole main_v3
abbrev hB1 : Memref sig .tc .hbm S1x7168 .f32 := Memref.whole main_v4
abbrev hW2 : Memref sig .tc .hbm S7168x512 .fp8e4m3 := Memref.whole main_arg6
abbrev hS2 : Memref sig .tc .hbm S1x512 .f32 := Memref.whole main_v5
abbrev hB2 : Memref sig .tc .hbm S1x512 .f32 := Memref.whole main_v6
/-- The scratch buffers: the ring of first-weight blocks, the copies of the operands, the unpacked keys, the window rows, the hidden rows. -/
abbrev mRing : Memref sig .tc .vmem S20x4096x512 .fp8e4m3 := Memref.whole cc0_scratch0
abbrev mKc : Memref sig .tc .vmem S768x512 .fp8e4m3 := Memref.whole cc0_scratch1
abbrev mKs : Memref sig .tc .vmem S6x1x128 .f32 := Memref.whole cc0_scratch2
abbrev mPos : Memref sig .tc .vmem S32x512 .f32 := Memref.whole cc0_scratch3
abbrev mS1 : Memref sig .tc .vmem S1x7168 .f32 := Memref.whole cc0_scratch4
abbrev mB1 : Memref sig .tc .vmem S1x7168 .f32 := Memref.whole cc0_scratch5
abbrev mW2 : Memref sig .tc .vmem S7168x512 .fp8e4m3 := Memref.whole cc0_scratch6
abbrev mS2 : Memref sig .tc .vmem S1x512 .f32 := Memref.whole cc0_scratch7
abbrev mB2 : Memref sig .tc .vmem S1x512 .f32 := Memref.whole cc0_scratch8
abbrev mKf : Memref sig .tc .vmem S4x768x128 .f32 := Memref.whole cc0_scratch9
abbrev mXb : Memref sig .tc .vmem S48x16384 .bf16 := Memref.whole cc0_scratch10
abbrev mHid : Memref sig .tc .vmem S48x7168 .f32 := Memref.whole cc0_scratch11

/-- Contents of the buffer a memref reads. -/
abbrev BufOf (F : FTy → Type) (c : Dev nD) {sp : Space} {S : Shape} {e : EltTy} (M : Memref sig .tc sp S e) : Type := Buf (Elt F) (M.view.loc (c : Thread nD τ))
/-- A memref's buffer held whole at the full share. -/
abbrev pt (c : Dev nD) {sp : Space} {S : Shape} {e : EltTy} (M : Memref sig .tc sp S e) (f : BufOf F c M) : sProp 𝕄 :=
  M.view.loc (c : Thread nD τ) ↦{fullShare} f

/-! ## The ring: five groups of four slots; slab `b`'s four blocks of the first weight go to group `b % 5` -/

theorem trips_eq : k0_t1_loop.trips = 14 := by decide

/-- Group `s`, chunk `ch` is slot `4 s + ch`. -/
abbrev slotOff (s : Fin 5) (ch : Fin 4) : Fin 3 → Nat := ![s.val * 4 + ch.val, 0, 0]
theorem slotOff_inb (s : Fin 5) (ch : Fin 4) : ∀ a, slotOff s ch a + S1x4096x512.size a ≤ S20x4096x512.size a := by
  have := s.isLt; have := ch.isLt; intro a; fin_cases a
  · show (s.val * 4 + ch.val) + 1 ≤ 20; omega
  · show 0 + 4096 ≤ 4096; omega
  · show 0 + 512 ≤ 512; omega
abbrev semOff (s : Fin 5) (ch : Fin 4) : Fin 1 → Nat := ![s.val * 4 + ch.val]
theorem semOff_inb (s : Fin 5) (ch : Fin 4) : ∀ a, semOff s ch a + S1.size a ≤ S20.size a := by
  have := s.isLt; have := ch.isLt; intro a; fin_cases a; show (s.val * 4 + ch.val) + 1 ≤ 20; omega
/-- Slab `b`, chunk `ch` of the first weight: 4096 of its rows, 512 of its columns. -/
abbrev blkOff (b : Fin 14) (ch : Fin 4) : Fin 2 → Nat := ![4096 * ch.val, 512 * b.val]
theorem blkOff_inb (b : Fin 14) (ch : Fin 4) : ∀ a, blkOff b ch a + S4096x512.size a ≤ S16384x7168.size a := by
  have := b.isLt; have := ch.isLt; intro a; fin_cases a
  · show 4096 * ch.val + 4096 ≤ 16384; omega
  · show 512 * b.val + 512 ≤ 7168; omega
abbrev colOff (b : Fin 14) : Fin 2 → Nat := ![0, 512 * b.val]

/-- A slot of the ring, as the kernel slices and squeezes it. -/
def rslot (s : Fin 5) (ch : Fin 4) : Memref sig .tc .vmem S4096x512 .fp8e4m3 :=
  (mRing.slice (Rect.unit (s := S20x4096x512) (slotOff s ch) S1x4096x512.size (slotOff_inb s ch)) (fun _ => rfl)).squeeze S4096x512 squeezes_S1x4096x512_S4096x512
/-- Its transfer cell. -/
def csm (s : Fin 5) (ch : Fin 4) : DmaSems sig S_ := (cc0_scratch13.slice (Rect.unit (s := S20) (semOff s ch) S1.size (semOff_inb s ch))).squeeze S_ squeezes_S1_S_
/-- A block of the first weight. -/
def blk (b : Fin 14) (ch : Fin 4) : Memref sig .tc .hbm S4096x512 .fp8e4m3 :=
  hW1.slice (Rect.unit (s := S16384x7168) (blkOff b ch) S4096x512.size (blkOff_inb b ch)) (fun _ => rfl)

instance (s : Fin 5) (ch : Fin 4) : ClosedOff (slotOff s ch) := ⟨slotOff s ch, rfl⟩
instance (b : Fin 14) (ch : Fin 4) : ClosedOff (blkOff b ch) := ⟨blkOff b ch, rfl⟩

/-! ## The printed offsets in those terms -/

theorem off3_0 : ∀ k : Fin k0_t1_loop.trips, k0_off3 k 0#32 = semOff (Ring.sl 5 k.val) 0 := by decide +kernel
theorem off4_0 : ∀ k : Fin k0_t1_loop.trips, k0_off4 k 0#32 = slotOff (Ring.sl 5 k.val) 0 := by decide +kernel
theorem off6_0 : ∀ k : Fin k0_t1_loop.trips, k0_off6 k 0#32 = slotOff (Ring.sl 5 k.val) 0 := by decide +kernel
theorem off3_1 : ∀ k : Fin k0_t1_loop.trips, k0_off3 k 1#32 = semOff (Ring.sl 5 k.val) 1 := by decide +kernel
theorem off4_1 : ∀ k : Fin k0_t1_loop.trips, k0_off4 k 1#32 = slotOff (Ring.sl 5 k.val) 1 := by decide +kernel
theorem off6_1 : ∀ k : Fin k0_t1_loop.trips, k0_off6 k 1#32 = slotOff (Ring.sl 5 k.val) 1 := by decide +kernel
theorem off3_2 : ∀ k : Fin k0_t1_loop.trips, k0_off3 k 2#32 = semOff (Ring.sl 5 k.val) 2 := by decide +kernel
theorem off4_2 : ∀ k : Fin k0_t1_loop.trips, k0_off4 k 2#32 = slotOff (Ring.sl 5 k.val) 2 := by decide +kernel
theorem off6_2 : ∀ k : Fin k0_t1_loop.trips, k0_off6 k 2#32 = slotOff (Ring.sl 5 k.val) 2 := by decide +kernel
theorem off3_3 : ∀ k : Fin k0_t1_loop.trips, k0_off3 k 3#32 = semOff (Ring.sl 5 k.val) 3 := by decide +kernel
theorem off4_3 : ∀ k : Fin k0_t1_loop.trips, k0_off4 k 3#32 = slotOff (Ring.sl 5 k.val) 3 := by decide +kernel
theorem off6_3 : ∀ k : Fin k0_t1_loop.trips, k0_off6 k 3#32 = slotOff (Ring.sl 5 k.val) 3 := by decide +kernel
theorem off5_eq : ∀ k : Fin k0_t1_loop.trips, k0_off5 k = blkOff (Ring.bk 14 k.val) 0 := by decide +kernel
theorem off7_eq : ∀ k : Fin k0_t1_loop.trips, k0_cond1 k = 1#1 → k0_off7 k = semOff (Ring.sl 5 k.val) 0 := by decide +kernel
theorem off8_eq : ∀ k : Fin k0_t1_loop.trips, k0_cond1 k = 1#1 → k0_off8 k = slotOff (Ring.sl 5 k.val) 0 := by decide +kernel
theorem off9_eq : ∀ k : Fin k0_t1_loop.trips, k0_cond1 k = 1#1 → k0_off9 k = blkOff (Ring.bk 14 (k.val + 5)) 0 := by decide +kernel
theorem cond1_iff : ∀ k : Fin k0_t1_loop.trips, k0_cond1 k = 1#1 ↔ k.val + 5 < 14 := by decide +kernel
theorem off10_eq : ∀ k : Fin k0_t1_loop.trips, k0_off10 k = blkOff (Ring.bk 14 k.val) 1 := by decide +kernel
theorem off11_eq : ∀ k : Fin k0_t1_loop.trips, k0_cond2 k = 1#1 → k0_off11 k = semOff (Ring.sl 5 k.val) 1 := by decide +kernel
theorem off12_eq : ∀ k : Fin k0_t1_loop.trips, k0_cond2 k = 1#1 → k0_off12 k = slotOff (Ring.sl 5 k.val) 1 := by decide +kernel
theorem off13_eq : ∀ k : Fin k0_t1_loop.trips, k0_cond2 k = 1#1 → k0_off13 k = blkOff (Ring.bk 14 (k.val + 5)) 1 := by decide +kernel
theorem cond2_iff : ∀ k : Fin k0_t1_loop.trips, k0_cond2 k = 1#1 ↔ k.val + 5 < 14 := by decide +kernel
theorem off14_eq : ∀ k : Fin k0_t1_loop.trips, k0_off14 k = blkOff (Ring.bk 14 k.val) 2 := by decide +kernel
theorem off15_eq : ∀ k : Fin k0_t1_loop.trips, k0_cond3 k = 1#1 → k0_off15 k = semOff (Ring.sl 5 k.val) 2 := by decide +kernel
theorem off16_eq : ∀ k : Fin k0_t1_loop.trips, k0_cond3 k = 1#1 → k0_off16 k = slotOff (Ring.sl 5 k.val) 2 := by decide +kernel
theorem off17_eq : ∀ k : Fin k0_t1_loop.trips, k0_cond3 k = 1#1 → k0_off17 k = blkOff (Ring.bk 14 (k.val + 5)) 2 := by decide +kernel
theorem cond3_iff : ∀ k : Fin k0_t1_loop.trips, k0_cond3 k = 1#1 ↔ k.val + 5 < 14 := by decide +kernel
theorem off18_eq : ∀ k : Fin k0_t1_loop.trips, k0_off18 k = blkOff (Ring.bk 14 k.val) 3 := by decide +kernel
theorem off19_eq : ∀ k : Fin k0_t1_loop.trips, k0_cond4 k = 1#1 → k0_off19 k = semOff (Ring.sl 5 k.val) 3 := by decide +kernel
theorem off20_eq : ∀ k : Fin k0_t1_loop.trips, k0_cond4 k = 1#1 → k0_off20 k = slotOff (Ring.sl 5 k.val) 3 := by decide +kernel
theorem off21_eq : ∀ k : Fin k0_t1_loop.trips, k0_cond4 k = 1#1 → k0_off21 k = blkOff (Ring.bk 14 (k.val + 5)) 3 := by decide +kernel
theorem cond4_iff : ∀ k : Fin k0_t1_loop.trips, k0_cond4 k = 1#1 ↔ k.val + 5 < 14 := by decide +kernel
theorem off22_eq : ∀ k : Fin k0_t1_loop.trips, k0_off22 k = colOff (Ring.bk 14 k.val) := by decide +kernel
theorem off23_eq : ∀ k : Fin k0_t1_loop.trips, k0_off23 k = colOff (Ring.bk 14 k.val) := by decide +kernel

instance (k : Fin k0_t1_loop.trips) : ClosedOff (k0_off4 k 0#32) := ⟨slotOff (Ring.sl 5 k.val) 0, off4_0 k⟩
instance (k : Fin k0_t1_loop.trips) : ClosedOff (k0_off6 k 0#32) := ⟨slotOff (Ring.sl 5 k.val) 0, off6_0 k⟩
instance (k : Fin k0_t1_loop.trips) : ClosedOff (k0_off4 k 1#32) := ⟨slotOff (Ring.sl 5 k.val) 1, off4_1 k⟩
instance (k : Fin k0_t1_loop.trips) : ClosedOff (k0_off6 k 1#32) := ⟨slotOff (Ring.sl 5 k.val) 1, off6_1 k⟩
instance (k : Fin k0_t1_loop.trips) : ClosedOff (k0_off4 k 2#32) := ⟨slotOff (Ring.sl 5 k.val) 2, off4_2 k⟩
instance (k : Fin k0_t1_loop.trips) : ClosedOff (k0_off6 k 2#32) := ⟨slotOff (Ring.sl 5 k.val) 2, off6_2 k⟩
instance (k : Fin k0_t1_loop.trips) : ClosedOff (k0_off4 k 3#32) := ⟨slotOff (Ring.sl 5 k.val) 3, off4_3 k⟩
instance (k : Fin k0_t1_loop.trips) : ClosedOff (k0_off6 k 3#32) := ⟨slotOff (Ring.sl 5 k.val) 3, off6_3 k⟩

theorem csm_congr {off : Fin 1 → Nat} {s : Fin 5} {ch : Fin 4} (e : off = semOff s ch) (hh) :
    (cc0_scratch13.slice (Rect.unit (s := S20) off S1.size hh)).squeeze S_ squeezes_S1_S_ = csm s ch :=
  congrArg (fun A : DmaSems sig S1 => A.squeeze S_ squeezes_S1_S_) (SemArray.slice_unit_congr _ e _ _)
theorem rslot_congr {off : Fin 3 → Nat} {s : Fin 5} {ch : Fin 4} (e : off = slotOff s ch) (hh hs) :
    (mRing.slice (Rect.unit (s := S20x4096x512) off S1x4096x512.size hh) hs).squeeze S4096x512 squeezes_S1x4096x512_S4096x512 = rslot s ch :=
  congrArg (fun M : Memref sig .tc .vmem S1x4096x512 .fp8e4m3 => M.squeeze S4096x512 squeezes_S1x4096x512_S4096x512) (Memref.slice_unit_congr _ e _ _ _ _)
theorem blk_congr {off : Fin 2 → Nat} {b : Fin 14} {ch : Fin 4} (e : off = blkOff b ch) (hh hs) :
    hW1.slice (Rect.unit (s := S16384x7168) off S4096x512.size hh) hs = blk b ch := by
  subst e; rfl

/-! ## The kernel's spelling of a slot, a cell, a block is the canonical one -/

section Canon
@[sl_canon] theorem semK0 (k : Fin k0_t1_loop.trips) (hh) :
    (cc0_scratch13.slice (Rect.unit (s := S20) (k0_off3 k 0#32) S1.size hh)).squeeze S_ squeezes_S1_S_ = csm (Ring.sl 5 k.val) 0 := csm_congr (off3_0 k) _
@[sl_canon] theorem slotK0 (k : Fin k0_t1_loop.trips) (hh hs) :
    (mRing.slice (Rect.unit (s := S20x4096x512) (k0_off4 k 0#32) S1x4096x512.size hh) hs).squeeze S4096x512 squeezes_S1x4096x512_S4096x512 = rslot (Ring.sl 5 k.val) 0 := rslot_congr (off4_0 k) _ _
@[sl_canon] theorem blkK0 (k : Fin k0_t1_loop.trips) (hh hs) :
    hW1.slice (Rect.unit (s := S16384x7168) (k0_off5 k) S4096x512.size hh) hs = blk (Ring.bk 14 k.val) 0 := blk_congr (off5_eq k) _ _
@[sl_canon] theorem semI0 (k : Fin k0_t1_loop.trips) (hc : k0_cond1 k = 1#1) (hh) :
    (cc0_scratch13.slice (Rect.unit (s := S20) (k0_off7 k) S1.size hh)).squeeze S_ squeezes_S1_S_ = csm (Ring.sl 5 k.val) 0 := csm_congr (off7_eq k hc) _
@[sl_canon] theorem slotI0 (k : Fin k0_t1_loop.trips) (hc : k0_cond1 k = 1#1) (hh hs) :
    (mRing.slice (Rect.unit (s := S20x4096x512) (k0_off8 k) S1x4096x512.size hh) hs).squeeze S4096x512 squeezes_S1x4096x512_S4096x512 = rslot (Ring.sl 5 k.val) 0 := rslot_congr (off8_eq k hc) _ _
@[sl_canon] theorem blkI0 (k : Fin k0_t1_loop.trips) (hc : k0_cond1 k = 1#1) (hh hs) :
    hW1.slice (Rect.unit (s := S16384x7168) (k0_off9 k) S4096x512.size hh) hs = blk (Ring.bk 14 (k.val + 5)) 0 := blk_congr (off9_eq k hc) _ _
@[sl_canon] theorem semK1 (k : Fin k0_t1_loop.trips) (hh) :
    (cc0_scratch13.slice (Rect.unit (s := S20) (k0_off3 k 1#32) S1.size hh)).squeeze S_ squeezes_S1_S_ = csm (Ring.sl 5 k.val) 1 := csm_congr (off3_1 k) _
@[sl_canon] theorem slotK1 (k : Fin k0_t1_loop.trips) (hh hs) :
    (mRing.slice (Rect.unit (s := S20x4096x512) (k0_off4 k 1#32) S1x4096x512.size hh) hs).squeeze S4096x512 squeezes_S1x4096x512_S4096x512 = rslot (Ring.sl 5 k.val) 1 := rslot_congr (off4_1 k) _ _
@[sl_canon] theorem blkK1 (k : Fin k0_t1_loop.trips) (hh hs) :
    hW1.slice (Rect.unit (s := S16384x7168) (k0_off10 k) S4096x512.size hh) hs = blk (Ring.bk 14 k.val) 1 := blk_congr (off10_eq k) _ _
@[sl_canon] theorem semI1 (k : Fin k0_t1_loop.trips) (hc : k0_cond2 k = 1#1) (hh) :
    (cc0_scratch13.slice (Rect.unit (s := S20) (k0_off11 k) S1.size hh)).squeeze S_ squeezes_S1_S_ = csm (Ring.sl 5 k.val) 1 := csm_congr (off11_eq k hc) _
@[sl_canon] theorem slotI1 (k : Fin k0_t1_loop.trips) (hc : k0_cond2 k = 1#1) (hh hs) :
    (mRing.slice (Rect.unit (s := S20x4096x512) (k0_off12 k) S1x4096x512.size hh) hs).squeeze S4096x512 squeezes_S1x4096x512_S4096x512 = rslot (Ring.sl 5 k.val) 1 := rslot_congr (off12_eq k hc) _ _
@[sl_canon] theorem blkI1 (k : Fin k0_t1_loop.trips) (hc : k0_cond2 k = 1#1) (hh hs) :
    hW1.slice (Rect.unit (s := S16384x7168) (k0_off13 k) S4096x512.size hh) hs = blk (Ring.bk 14 (k.val + 5)) 1 := blk_congr (off13_eq k hc) _ _
@[sl_canon] theorem semK2 (k : Fin k0_t1_loop.trips) (hh) :
    (cc0_scratch13.slice (Rect.unit (s := S20) (k0_off3 k 2#32) S1.size hh)).squeeze S_ squeezes_S1_S_ = csm (Ring.sl 5 k.val) 2 := csm_congr (off3_2 k) _
@[sl_canon] theorem slotK2 (k : Fin k0_t1_loop.trips) (hh hs) :
    (mRing.slice (Rect.unit (s := S20x4096x512) (k0_off4 k 2#32) S1x4096x512.size hh) hs).squeeze S4096x512 squeezes_S1x4096x512_S4096x512 = rslot (Ring.sl 5 k.val) 2 := rslot_congr (off4_2 k) _ _
@[sl_canon] theorem blkK2 (k : Fin k0_t1_loop.trips) (hh hs) :
    hW1.slice (Rect.unit (s := S16384x7168) (k0_off14 k) S4096x512.size hh) hs = blk (Ring.bk 14 k.val) 2 := blk_congr (off14_eq k) _ _
@[sl_canon] theorem semI2 (k : Fin k0_t1_loop.trips) (hc : k0_cond3 k = 1#1) (hh) :
    (cc0_scratch13.slice (Rect.unit (s := S20) (k0_off15 k) S1.size hh)).squeeze S_ squeezes_S1_S_ = csm (Ring.sl 5 k.val) 2 := csm_congr (off15_eq k hc) _
@[sl_canon] theorem slotI2 (k : Fin k0_t1_loop.trips) (hc : k0_cond3 k = 1#1) (hh hs) :
    (mRing.slice (Rect.unit (s := S20x4096x512) (k0_off16 k) S1x4096x512.size hh) hs).squeeze S4096x512 squeezes_S1x4096x512_S4096x512 = rslot (Ring.sl 5 k.val) 2 := rslot_congr (off16_eq k hc) _ _
@[sl_canon] theorem blkI2 (k : Fin k0_t1_loop.trips) (hc : k0_cond3 k = 1#1) (hh hs) :
    hW1.slice (Rect.unit (s := S16384x7168) (k0_off17 k) S4096x512.size hh) hs = blk (Ring.bk 14 (k.val + 5)) 2 := blk_congr (off17_eq k hc) _ _
@[sl_canon] theorem semK3 (k : Fin k0_t1_loop.trips) (hh) :
    (cc0_scratch13.slice (Rect.unit (s := S20) (k0_off3 k 3#32) S1.size hh)).squeeze S_ squeezes_S1_S_ = csm (Ring.sl 5 k.val) 3 := csm_congr (off3_3 k) _
@[sl_canon] theorem slotK3 (k : Fin k0_t1_loop.trips) (hh hs) :
    (mRing.slice (Rect.unit (s := S20x4096x512) (k0_off4 k 3#32) S1x4096x512.size hh) hs).squeeze S4096x512 squeezes_S1x4096x512_S4096x512 = rslot (Ring.sl 5 k.val) 3 := rslot_congr (off4_3 k) _ _
@[sl_canon] theorem blkK3 (k : Fin k0_t1_loop.trips) (hh hs) :
    hW1.slice (Rect.unit (s := S16384x7168) (k0_off18 k) S4096x512.size hh) hs = blk (Ring.bk 14 k.val) 3 := blk_congr (off18_eq k) _ _
@[sl_canon] theorem semI3 (k : Fin k0_t1_loop.trips) (hc : k0_cond4 k = 1#1) (hh) :
    (cc0_scratch13.slice (Rect.unit (s := S20) (k0_off19 k) S1.size hh)).squeeze S_ squeezes_S1_S_ = csm (Ring.sl 5 k.val) 3 := csm_congr (off19_eq k hc) _
@[sl_canon] theorem slotI3 (k : Fin k0_t1_loop.trips) (hc : k0_cond4 k = 1#1) (hh hs) :
    (mRing.slice (Rect.unit (s := S20x4096x512) (k0_off20 k) S1x4096x512.size hh) hs).squeeze S4096x512 squeezes_S1x4096x512_S4096x512 = rslot (Ring.sl 5 k.val) 3 := rslot_congr (off20_eq k hc) _ _
@[sl_canon] theorem blkI3 (k : Fin k0_t1_loop.trips) (hc : k0_cond4 k = 1#1) (hh hs) :
    hW1.slice (Rect.unit (s := S16384x7168) (k0_off21 k) S4096x512.size hh) hs = blk (Ring.bk 14 (k.val + 5)) 3 := blk_congr (off21_eq k hc) _ _

@[sl_canon] theorem semP00 (hh) : (cc0_scratch13.slice (Rect.unit (s := S20) (k0_off1 0#32 0#32) S1.size hh)).squeeze S_ squeezes_S1_S_ = csm 0 0 := csm_congr (by decide +kernel) _
@[sl_canon] theorem slotP00 (hh hs) : (mRing.slice (Rect.unit (s := S20x4096x512) (k0_off2 0#32 0#32) S1x4096x512.size hh) hs).squeeze S4096x512 squeezes_S1x4096x512_S4096x512 = rslot 0 0 := rslot_congr (by decide +kernel) _ _
@[sl_canon] theorem blkP00 (hh hs) : hW1.slice (Rect.unit (s := S16384x7168) ![0, 0] S4096x512.size hh) hs = blk 0 0 := blk_congr (by decide +kernel) _ _
@[sl_canon] theorem semP01 (hh) : (cc0_scratch13.slice (Rect.unit (s := S20) (k0_off1 0#32 1#32) S1.size hh)).squeeze S_ squeezes_S1_S_ = csm 0 1 := csm_congr (by decide +kernel) _
@[sl_canon] theorem slotP01 (hh hs) : (mRing.slice (Rect.unit (s := S20x4096x512) (k0_off2 0#32 1#32) S1x4096x512.size hh) hs).squeeze S4096x512 squeezes_S1x4096x512_S4096x512 = rslot 0 1 := rslot_congr (by decide +kernel) _ _
@[sl_canon] theorem blkP01 (hh hs) : hW1.slice (Rect.unit (s := S16384x7168) ![4096, 0] S4096x512.size hh) hs = blk 0 1 := blk_congr (by decide +kernel) _ _
@[sl_canon] theorem semP02 (hh) : (cc0_scratch13.slice (Rect.unit (s := S20) (k0_off1 0#32 2#32) S1.size hh)).squeeze S_ squeezes_S1_S_ = csm 0 2 := csm_congr (by decide +kernel) _
@[sl_canon] theorem slotP02 (hh hs) : (mRing.slice (Rect.unit (s := S20x4096x512) (k0_off2 0#32 2#32) S1x4096x512.size hh) hs).squeeze S4096x512 squeezes_S1x4096x512_S4096x512 = rslot 0 2 := rslot_congr (by decide +kernel) _ _
@[sl_canon] theorem blkP02 (hh hs) : hW1.slice (Rect.unit (s := S16384x7168) ![8192, 0] S4096x512.size hh) hs = blk 0 2 := blk_congr (by decide +kernel) _ _
@[sl_canon] theorem semP03 (hh) : (cc0_scratch13.slice (Rect.unit (s := S20) (k0_off1 0#32 3#32) S1.size hh)).squeeze S_ squeezes_S1_S_ = csm 0 3 := csm_congr (by decide +kernel) _
@[sl_canon] theorem slotP03 (hh hs) : (mRing.slice (Rect.unit (s := S20x4096x512) (k0_off2 0#32 3#32) S1x4096x512.size hh) hs).squeeze S4096x512 squeezes_S1x4096x512_S4096x512 = rslot 0 3 := rslot_congr (by decide +kernel) _ _
@[sl_canon] theorem blkP03 (hh hs) : hW1.slice (Rect.unit (s := S16384x7168) ![12288, 0] S4096x512.size hh) hs = blk 0 3 := blk_congr (by decide +kernel) _ _
@[sl_canon] theorem semP10 (hh) : (cc0_scratch13.slice (Rect.unit (s := S20) (k0_off1 1#32 0#32) S1.size hh)).squeeze S_ squeezes_S1_S_ = csm 1 0 := csm_congr (by decide +kernel) _
@[sl_canon] theorem slotP10 (hh hs) : (mRing.slice (Rect.unit (s := S20x4096x512) (k0_off2 1#32 0#32) S1x4096x512.size hh) hs).squeeze S4096x512 squeezes_S1x4096x512_S4096x512 = rslot 1 0 := rslot_congr (by decide +kernel) _ _
@[sl_canon] theorem blkP10 (hh hs) : hW1.slice (Rect.unit (s := S16384x7168) ![0, 512] S4096x512.size hh) hs = blk 1 0 := blk_congr (by decide +kernel) _ _
@[sl_canon] theorem semP11 (hh) : (cc0_scratch13.slice (Rect.unit (s := S20) (k0_off1 1#32 1#32) S1.size hh)).squeeze S_ squeezes_S1_S_ = csm 1 1 := csm_congr (by decide +kernel) _
@[sl_canon] theorem slotP11 (hh hs) : (mRing.slice (Rect.unit (s := S20x4096x512) (k0_off2 1#32 1#32) S1x4096x512.size hh) hs).squeeze S4096x512 squeezes_S1x4096x512_S4096x512 = rslot 1 1 := rslot_congr (by decide +kernel) _ _
@[sl_canon] theorem blkP11 (hh hs) : hW1.slice (Rect.unit (s := S16384x7168) ![4096, 512] S4096x512.size hh) hs = blk 1 1 := blk_congr (by decide +kernel) _ _
@[sl_canon] theorem semP12 (hh) : (cc0_scratch13.slice (Rect.unit (s := S20) (k0_off1 1#32 2#32) S1.size hh)).squeeze S_ squeezes_S1_S_ = csm 1 2 := csm_congr (by decide +kernel) _
@[sl_canon] theorem slotP12 (hh hs) : (mRing.slice (Rect.unit (s := S20x4096x512) (k0_off2 1#32 2#32) S1x4096x512.size hh) hs).squeeze S4096x512 squeezes_S1x4096x512_S4096x512 = rslot 1 2 := rslot_congr (by decide +kernel) _ _
@[sl_canon] theorem blkP12 (hh hs) : hW1.slice (Rect.unit (s := S16384x7168) ![8192, 512] S4096x512.size hh) hs = blk 1 2 := blk_congr (by decide +kernel) _ _
@[sl_canon] theorem semP13 (hh) : (cc0_scratch13.slice (Rect.unit (s := S20) (k0_off1 1#32 3#32) S1.size hh)).squeeze S_ squeezes_S1_S_ = csm 1 3 := csm_congr (by decide +kernel) _
@[sl_canon] theorem slotP13 (hh hs) : (mRing.slice (Rect.unit (s := S20x4096x512) (k0_off2 1#32 3#32) S1x4096x512.size hh) hs).squeeze S4096x512 squeezes_S1x4096x512_S4096x512 = rslot 1 3 := rslot_congr (by decide +kernel) _ _
@[sl_canon] theorem blkP13 (hh hs) : hW1.slice (Rect.unit (s := S16384x7168) ![12288, 512] S4096x512.size hh) hs = blk 1 3 := blk_congr (by decide +kernel) _ _
@[sl_canon] theorem semP20 (hh) : (cc0_scratch13.slice (Rect.unit (s := S20) (k0_off1 2#32 0#32) S1.size hh)).squeeze S_ squeezes_S1_S_ = csm 2 0 := csm_congr (by decide +kernel) _
@[sl_canon] theorem slotP20 (hh hs) : (mRing.slice (Rect.unit (s := S20x4096x512) (k0_off2 2#32 0#32) S1x4096x512.size hh) hs).squeeze S4096x512 squeezes_S1x4096x512_S4096x512 = rslot 2 0 := rslot_congr (by decide +kernel) _ _
@[sl_canon] theorem blkP20 (hh hs) : hW1.slice (Rect.unit (s := S16384x7168) ![0, 1024] S4096x512.size hh) hs = blk 2 0 := blk_congr (by decide +kernel) _ _
@[sl_canon] theorem semP21 (hh) : (cc0_scratch13.slice (Rect.unit (s := S20) (k0_off1 2#32 1#32) S1.size hh)).squeeze S_ squeezes_S1_S_ = csm 2 1 := csm_congr (by decide +kernel) _
@[sl_canon] theorem slotP21 (hh hs) : (mRing.slice (Rect.unit (s := S20x4096x512) (k0_off2 2#32 1#32) S1x4096x512.size hh) hs).squeeze S4096x512 squeezes_S1x4096x512_S4096x512 = rslot 2 1 := rslot_congr (by decide +kernel) _ _
@[sl_canon] theorem blkP21 (hh hs) : hW1.slice (Rect.unit (s := S16384x7168) ![4096, 1024] S4096x512.size hh) hs = blk 2 1 := blk_congr (by decide +kernel) _ _
@[sl_canon] theorem semP22 (hh) : (cc0_scratch13.slice (Rect.unit (s := S20) (k0_off1 2#32 2#32) S1.size hh)).squeeze S_ squeezes_S1_S_ = csm 2 2 := csm_congr (by decide +kernel) _
@[sl_canon] theorem slotP22 (hh hs) : (mRing.slice (Rect.unit (s := S20x4096x512) (k0_off2 2#32 2#32) S1x4096x512.size hh) hs).squeeze S4096x512 squeezes_S1x4096x512_S4096x512 = rslot 2 2 := rslot_congr (by decide +kernel) _ _
@[sl_canon] theorem blkP22 (hh hs) : hW1.slice (Rect.unit (s := S16384x7168) ![8192, 1024] S4096x512.size hh) hs = blk 2 2 := blk_congr (by decide +kernel) _ _
@[sl_canon] theorem semP23 (hh) : (cc0_scratch13.slice (Rect.unit (s := S20) (k0_off1 2#32 3#32) S1.size hh)).squeeze S_ squeezes_S1_S_ = csm 2 3 := csm_congr (by decide +kernel) _
@[sl_canon] theorem slotP23 (hh hs) : (mRing.slice (Rect.unit (s := S20x4096x512) (k0_off2 2#32 3#32) S1x4096x512.size hh) hs).squeeze S4096x512 squeezes_S1x4096x512_S4096x512 = rslot 2 3 := rslot_congr (by decide +kernel) _ _
@[sl_canon] theorem blkP23 (hh hs) : hW1.slice (Rect.unit (s := S16384x7168) ![12288, 1024] S4096x512.size hh) hs = blk 2 3 := blk_congr (by decide +kernel) _ _
@[sl_canon] theorem semP30 (hh) : (cc0_scratch13.slice (Rect.unit (s := S20) (k0_off1 3#32 0#32) S1.size hh)).squeeze S_ squeezes_S1_S_ = csm 3 0 := csm_congr (by decide +kernel) _
@[sl_canon] theorem slotP30 (hh hs) : (mRing.slice (Rect.unit (s := S20x4096x512) (k0_off2 3#32 0#32) S1x4096x512.size hh) hs).squeeze S4096x512 squeezes_S1x4096x512_S4096x512 = rslot 3 0 := rslot_congr (by decide +kernel) _ _
@[sl_canon] theorem blkP30 (hh hs) : hW1.slice (Rect.unit (s := S16384x7168) ![0, 1536] S4096x512.size hh) hs = blk 3 0 := blk_congr (by decide +kernel) _ _
@[sl_canon] theorem semP31 (hh) : (cc0_scratch13.slice (Rect.unit (s := S20) (k0_off1 3#32 1#32) S1.size hh)).squeeze S_ squeezes_S1_S_ = csm 3 1 := csm_congr (by decide +kernel) _
@[sl_canon] theorem slotP31 (hh hs) : (mRing.slice (Rect.unit (s := S20x4096x512) (k0_off2 3#32 1#32) S1x4096x512.size hh) hs).squeeze S4096x512 squeezes_S1x4096x512_S4096x512 = rslot 3 1 := rslot_congr (by decide +kernel) _ _
@[sl_canon] theorem blkP31 (hh hs) : hW1.slice (Rect.unit (s := S16384x7168) ![4096, 1536] S4096x512.size hh) hs = blk 3 1 := blk_congr (by decide +kernel) _ _
@[sl_canon] theorem semP32 (hh) : (cc0_scratch13.slice (Rect.unit (s := S20) (k0_off1 3#32 2#32) S1.size hh)).squeeze S_ squeezes_S1_S_ = csm 3 2 := csm_congr (by decide +kernel) _
@[sl_canon] theorem slotP32 (hh hs) : (mRing.slice (Rect.unit (s := S20x4096x512) (k0_off2 3#32 2#32) S1x4096x512.size hh) hs).squeeze S4096x512 squeezes_S1x4096x512_S4096x512 = rslot 3 2 := rslot_congr (by decide +kernel) _ _
@[sl_canon] theorem blkP32 (hh hs) : hW1.slice (Rect.unit (s := S16384x7168) ![8192, 1536] S4096x512.size hh) hs = blk 3 2 := blk_congr (by decide +kernel) _ _
@[sl_canon] theorem semP33 (hh) : (cc0_scratch13.slice (Rect.unit (s := S20) (k0_off1 3#32 3#32) S1.size hh)).squeeze S_ squeezes_S1_S_ = csm 3 3 := csm_congr (by decide +kernel) _
@[sl_canon] theorem slotP33 (hh hs) : (mRing.slice (Rect.unit (s := S20x4096x512) (k0_off2 3#32 3#32) S1x4096x512.size hh) hs).squeeze S4096x512 squeezes_S1x4096x512_S4096x512 = rslot 3 3 := rslot_congr (by decide +kernel) _ _
@[sl_canon] theorem blkP33 (hh hs) : hW1.slice (Rect.unit (s := S16384x7168) ![12288, 1536] S4096x512.size hh) hs = blk 3 3 := blk_congr (by decide +kernel) _ _
@[sl_canon] theorem semP40 (hh) : (cc0_scratch13.slice (Rect.unit (s := S20) (k0_off1 4#32 0#32) S1.size hh)).squeeze S_ squeezes_S1_S_ = csm 4 0 := csm_congr (by decide +kernel) _
@[sl_canon] theorem slotP40 (hh hs) : (mRing.slice (Rect.unit (s := S20x4096x512) (k0_off2 4#32 0#32) S1x4096x512.size hh) hs).squeeze S4096x512 squeezes_S1x4096x512_S4096x512 = rslot 4 0 := rslot_congr (by decide +kernel) _ _
@[sl_canon] theorem blkP40 (hh hs) : hW1.slice (Rect.unit (s := S16384x7168) ![0, 2048] S4096x512.size hh) hs = blk 4 0 := blk_congr (by decide +kernel) _ _
@[sl_canon] theorem semP41 (hh) : (cc0_scratch13.slice (Rect.unit (s := S20) (k0_off1 4#32 1#32) S1.size hh)).squeeze S_ squeezes_S1_S_ = csm 4 1 := csm_congr (by decide +kernel) _
@[sl_canon] theorem slotP41 (hh hs) : (mRing.slice (Rect.unit (s := S20x4096x512) (k0_off2 4#32 1#32) S1x4096x512.size hh) hs).squeeze S4096x512 squeezes_S1x4096x512_S4096x512 = rslot 4 1 := rslot_congr (by decide +kernel) _ _
@[sl_canon] theorem blkP41 (hh hs) : hW1.slice (Rect.unit (s := S16384x7168) ![4096, 2048] S4096x512.size hh) hs = blk 4 1 := blk_congr (by decide +kernel) _ _
@[sl_canon] theorem semP42 (hh) : (cc0_scratch13.slice (Rect.unit (s := S20) (k0_off1 4#32 2#32) S1.size hh)).squeeze S_ squeezes_S1_S_ = csm 4 2 := csm_congr (by decide +kernel) _
@[sl_canon] theorem slotP42 (hh hs) : (mRing.slice (Rect.unit (s := S20x4096x512) (k0_off2 4#32 2#32) S1x4096x512.size hh) hs).squeeze S4096x512 squeezes_S1x4096x512_S4096x512 = rslot 4 2 := rslot_congr (by decide +kernel) _ _
@[sl_canon] theorem blkP42 (hh hs) : hW1.slice (Rect.unit (s := S16384x7168) ![8192, 2048] S4096x512.size hh) hs = blk 4 2 := blk_congr (by decide +kernel) _ _
@[sl_canon] theorem semP43 (hh) : (cc0_scratch13.slice (Rect.unit (s := S20) (k0_off1 4#32 3#32) S1.size hh)).squeeze S_ squeezes_S1_S_ = csm 4 3 := csm_congr (by decide +kernel) _
@[sl_canon] theorem slotP43 (hh hs) : (mRing.slice (Rect.unit (s := S20x4096x512) (k0_off2 4#32 3#32) S1x4096x512.size hh) hs).squeeze S4096x512 squeezes_S1x4096x512_S4096x512 = rslot 4 3 := rslot_congr (by decide +kernel) _ _
@[sl_canon] theorem blkP43 (hh hs) : hW1.slice (Rect.unit (s := S16384x7168) ![12288, 2048] S4096x512.size hh) hs = blk 4 3 := blk_congr (by decide +kernel) _ _
end Canon

/-! ## The pieces: a block home, a slot held, its cell, a slot in flight -/

section Pieces
variable (c : Dev nD) (fw : BufOf F c hW1)

abbrev cellP (s : Fin 5) (ch : Fin 4) : sProp 𝕄 := semVal ((c : Thread nD τ), SemLoc.dma (csm s ch).sem) 0
abbrev slotP (s : Fin 5) (ch : Fin 4) (f : Buf (Elt F) ((rslot s ch).view.loc (c : Thread nD τ))) : sProp 𝕄 :=
  (rslot s ch).view.loc (c : Thread nD τ) ↦[(rslot s ch).view.set]{fullShare} f
/-- A block HOME: held on its elements at the weight's contents. -/
abbrev homeP (b : Fin 14) (ch : Fin 4) : sProp 𝕄 := (blk b ch).view.loc (c : Thread nD τ) ↦[(blk b ch).view.set]{fullShare} fw
/-- What a block's transfer leaves in a slot over prior contents `f`. -/
abbrev landed (s : Fin 5) (b : Fin 14) (ch : Fin 4) (f : Buf (Elt F) ((rslot s ch).view.loc (c : Thread nD τ))) : Buf (Elt F) ((rslot s ch).view.loc (c : Thread nD τ)) :=
  (rslot s ch).view.writes (Elt F) f [⟨Rect.whole S4096x512, ReadAs.same.apply ((blk b ch).view.read (Elt F) fw)⟩]
/-- The slot in flight with a block, issued over `f`. -/
abbrev flightP (s : Fin 5) (b : Fin 14) (ch : Fin 4) (f : Buf (Elt F) ((rslot s ch).view.loc (c : Thread nD τ))) : sProp 𝕄 :=
  Transfers.Flight (countersEmb (U := Pipeline.UD sig nD τ)) (c : Thread nD τ) (SemLoc.dma (csm s ch).sem) () 65536 iprop(slotP c s ch (landed c fw s b ch f) ∗ homeP c fw b ch)

/-- A group in flight with a slab, its four slots each over some contents; a group free; a slab home. -/
abbrev infl (s : Fin 5) (b : Fin 14) : sProp 𝕄 :=
  iprop((∃ f, flightP c fw s b 0 f) ∗ (∃ f, flightP c fw s b 1 f) ∗ (∃ f, flightP c fw s b 2 f) ∗ (∃ f, flightP c fw s b 3 f))
abbrev freeP (s : Fin 5) (ch : Fin 4) : sProp 𝕄 := iprop(cellP c s ch ∗ ∃ f, slotP c s ch f)
abbrev freeG (s : Fin 5) : sProp 𝕄 := iprop(freeP (F := F) c s 0 ∗ freeP (F := F) c s 1 ∗ freeP (F := F) c s 2 ∗ freeP (F := F) c s 3)
abbrev homeG (b : Fin 14) : sProp 𝕄 := iprop(homeP c fw b 0 ∗ homeP c fw b 1 ∗ homeP c fw b 2 ∗ homeP c fw b 3)

end Pieces

end Cert.Proof.KI

end
-- ==== Proof.Run.Trip.lean ====
module
public import proofs.«01_k».proof.Proof.Run.Names

@[expose] public section
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-! ## What a trip computes -/

section Values
variable (c : Dev nD) (fw : BufOf F c hW1) (fx : BufOf F c mXb) (fs : BufOf F c mS1) (fb : BufOf F c mB1) (k : Fin k0_t1_loop.trips)

/-- Chunk 0 of slab `k` of the first weight, as the trip loads it: through the ring, out of the slot it landed in. -/
def wtile0 : Vec F S1x4096x512 .fp8e4m3 :=
  View.readAt (Elt F) mRing.view (Rect.unit (s := S20x4096x512) (k0_off6 k 0#32) S1x4096x512.size (k0_off6_inb k 0)).toLoadRect
    ((rslot (Ring.sl 5 k.val) 0).view.writes (Elt F) (rslot (Ring.sl 5 k.val) 0).view.junk
      [⟨Rect.whole S4096x512, ReadAs.same.apply ((blk (Ring.bk 14 k.val) 0).view.read (Elt F) fw)⟩])
/-- Chunk 0 of the activations. -/
def xtile0 : Vec F S48x4096 .bf16 :=
  View.readAt (Elt F) mXb.view (Rect.unit (s := S48x16384) ![0, 0] S48x4096.size inb_S48x16384_S48x4096_0_0).toLoadRect fx
/-- Chunk 1 of slab `k` of the first weight, as the trip loads it: through the ring, out of the slot it landed in. -/
def wtile1 : Vec F S1x4096x512 .fp8e4m3 :=
  View.readAt (Elt F) mRing.view (Rect.unit (s := S20x4096x512) (k0_off6 k 1#32) S1x4096x512.size (k0_off6_inb k 1)).toLoadRect
    ((rslot (Ring.sl 5 k.val) 1).view.writes (Elt F) (rslot (Ring.sl 5 k.val) 1).view.junk
      [⟨Rect.whole S4096x512, ReadAs.same.apply ((blk (Ring.bk 14 k.val) 1).view.read (Elt F) fw)⟩])
/-- Chunk 1 of the activations. -/
def xtile1 : Vec F S48x4096 .bf16 :=
  View.readAt (Elt F) mXb.view (Rect.unit (s := S48x16384) ![0, 4096] S48x4096.size inb_S48x16384_S48x4096_0_4096).toLoadRect fx
/-- Chunk 2 of slab `k` of the first weight, as the trip loads it: through the ring, out of the slot it landed in. -/
def wtile2 : Vec F S1x4096x512 .fp8e4m3 :=
  View.readAt (Elt F) mRing.view (Rect.unit (s := S20x4096x512) (k0_off6 k 2#32) S1x4096x512.size (k0_off6_inb k 2)).toLoadRect
    ((rslot (Ring.sl 5 k.val) 2).view.writes (Elt F) (rslot (Ring.sl 5 k.val) 2).view.junk
      [⟨Rect.whole S4096x512, ReadAs.same.apply ((blk (Ring.bk 14 k.val) 2).view.read (Elt F) fw)⟩])
/-- Chunk 2 of the activations. -/
def xtile2 : Vec F S48x4096 .bf16 :=
  View.readAt (Elt F) mXb.view (Rect.unit (s := S48x16384) ![0, 8192] S48x4096.size inb_S48x16384_S48x4096_0_8192).toLoadRect fx
/-- Chunk 3 of slab `k` of the first weight, as the trip loads it: through the ring, out of the slot it landed in. -/
def wtile3 : Vec F S1x4096x512 .fp8e4m3 :=
  View.readAt (Elt F) mRing.view (Rect.unit (s := S20x4096x512) (k0_off6 k 3#32) S1x4096x512.size (k0_off6_inb k 3)).toLoadRect
    ((rslot (Ring.sl 5 k.val) 3).view.writes (Elt F) (rslot (Ring.sl 5 k.val) 3).view.junk
      [⟨Rect.whole S4096x512, ReadAs.same.apply ((blk (Ring.bk 14 k.val) 3).view.read (Elt F) fw)⟩])
/-- Chunk 3 of the activations. -/
def xtile3 : Vec F S48x4096 .bf16 :=
  View.readAt (Elt F) mXb.view (Rect.unit (s := S48x16384) ![0, 12288] S48x4096.size inb_S48x16384_S48x4096_0_12288).toLoadRect fx
/-- The slab of the scale, and of the bias. -/
def stile : Vec F S1x512 .f32 := View.readAt (Elt F) mS1.view (Rect.unit (s := S1x7168) (k0_off22 k) S1x512.size (k0_off22_inb k)).toLoadRect fs
def btile : Vec F S1x512 .f32 := View.readAt (Elt F) mB1.view (Rect.unit (s := S1x7168) (k0_off22 k) S1x512.size (k0_off22_inb k)).toLoadRect fb

/-- The slab's product over the four chunks, scaled. -/
def preV : FVec F S48x512 .f32 :=
  k0_pay7 (k0_pay5 (k0_pay4 (xtile0 c fx) (wtile0 c fw k)) (xtile1 c fx) (wtile1 c fw k)) (k0_pay6 (xtile2 c fx) (wtile2 c fw k)) (xtile3 c fx) (wtile3 c fw k) (stile c fs k)

/-- The activation of a scaled slab `p` with bias `b`, as the trip stores it. -/
def slabOf (p : FVec F S48x512 .f32) (b : Vec F S1x512 .f32) : FVec F S48x512 .f32 :=
  k0_pay288 (k0_pay9 p b) (k0_pay10 p b) (k0_pay11 p b) (k0_pay12 p b) (k0_pay13 p b) (k0_pay16 (k0_pay14 p b) (k0_pay15 p b)) (k0_pay17 (k0_pay14 p b)) (k0_pay18 (k0_pay12 p b)) (k0_pay19 (k0_pay11 p b))
/-- The running row maximum, lane by lane, after that slab. -/
def maxOf (acc : FVec F S48x128 .f32) (p : FVec F S48x512 .f32) (b : Vec F S1x512 .f32) : FVec F S48x128 .f32 :=
  k0_pay289 acc (k0_pay9 p b) (k0_pay10 p b) (k0_pay11 p b) (k0_pay12 p b) (k0_pay13 p b) (k0_pay16 (k0_pay14 p b) (k0_pay15 p b)) (k0_pay17 (k0_pay14 p b)) (k0_pay18 (k0_pay12 p b)) (k0_pay19 (k0_pay11 p b))

/-- The hidden array before trip `k`: each earlier trip's slab stored over what it held. -/
def hidAt (fh : BufOf F c mHid) : ℕ → BufOf F c mHid
  | 0 => fh
  | k + 1 => if h : k < k0_t1_loop.trips then
      mHid.view.writes (Elt F) (hidAt fh k) [⟨Rect.unit (s := S48x7168) (k0_off23 ⟨k, h⟩) S48x512.size (k0_off23_inb ⟨k, h⟩), slabOf (preV c fw fx fs ⟨k, h⟩) (btile c fb ⟨k, h⟩)⟩]
    else hidAt fh k
/-- The carried maximum before trip `k`. -/
def accAt : ℕ → FVec F S48x128 .f32
  | 0 => k0_pay286
  | k + 1 => if h : k < k0_t1_loop.trips then maxOf (accAt k) (preV c fw fx fs ⟨k, h⟩) (btile c fb ⟨k, h⟩) else accAt k
theorem hidAt_succ (fh : BufOf F c mHid) : hidAt c fw fx fs fb fh (k.val + 1)
    = mHid.view.writes (Elt F) (hidAt c fw fx fs fb fh k.val) [⟨Rect.unit (s := S48x7168) (k0_off23 k) S48x512.size (k0_off23_inb k), slabOf (preV c fw fx fs k) (btile c fb k)⟩] := by
  rw [hidAt, dif_pos k.isLt]
theorem accAt_succ : accAt c fw fx fs fb (k.val + 1) = maxOf (accAt c fw fx fs fb k.val) (preV c fw fx fs k) (btile c fb k) := by
  rw [accAt, dif_pos k.isLt]
end Values

/-! ## One trip -/

/-- The flight a refill issues, as the run states it: over the slot as the previous block's flight delivered it. -/
theorem flightP_after (c : Dev nD) (fw : BufOf F c hW1) (s : Fin 5) (b b' : Fin 14) (ch : Fin 4) :
    flightP c fw s b' ch ((rslot s ch).view.writes (Elt F) (rslot s ch).view.junk [⟨Rect.whole S4096x512, ReadAs.same.apply ((blk b ch).view.read (Elt F) fw)⟩])
      = Transfers.Flight (countersEmb (U := Pipeline.UD sig nD τ)) (c : Thread nD τ) (SemLoc.dma (csm s ch).sem) () 65536
          iprop(((rslot s ch).view.loc (c : Thread nD τ) ↦[(rslot s ch).view.set]{fullShare}
                  (rslot s ch).view.writes (Elt F) (rslot s ch).view.junk [⟨Rect.whole S4096x512, ReadAs.same.apply ((blk b' ch).view.read (Elt F) fw)⟩, ⟨Rect.whole S4096x512, ReadAs.same.apply ((blk b ch).view.read (Elt F) fw)⟩])
                ∗ homeP c fw b' ch) := by
  simp only [flightP, landed, slotP, View.writes]

section Trip
variable (c : Dev nD) (a9 : Memref sig .tc .vmem S6x7x512 .fp8e4m3) (h9 : a9.IsWhole) (a10 : Memref sig .tc .vmem S6x1x7 .f32) (h10 : a10.IsWhole)
  (a11 : Memref sig .tc .vmem S6x7x7168 .fp8e4m3) (h11 : a11.IsWhole) (a12 : Memref sig .tc .vmem S6x1x7 .f32) (h12 : a12.IsWhole)
  (fw : BufOf F c hW1) (fx : BufOf F c mXb) (fs : BufOf F c mS1) (fb : BufOf F c mB1)
  (v1641 v1647 : FVec F S48x128 .f32)

/-- Trip `k`'s region over the kernel's own arrays. -/
abbrev tripG (k : Fin k0_t1_loop.trips) (acc : FVec F S48x128 .f32) : Prog (TpuEff nD τ sig (Elt F) Λ₀ .tc) (FVec F S48x128 .f32) :=
  k0_t1_body hKc (Memref.isWhole_whole _) hKs (Memref.isWhole_whole _) hPos (Memref.isWhole_whole _) hW1 (Memref.isWhole_whole _) hS1 (Memref.isWhole_whole _) hB1 (Memref.isWhole_whole _) hW2 (Memref.isWhole_whole _) hS2 (Memref.isWhole_whole _) hB2 (Memref.isWhole_whole _) a9 h9 a10 h10 a11 h11 a12 h12 mRing (Memref.isWhole_whole _) mKc (Memref.isWhole_whole _) mKs (Memref.isWhole_whole _) mPos (Memref.isWhole_whole _) mS1 (Memref.isWhole_whole _) mB1 (Memref.isWhole_whole _) mW2 (Memref.isWhole_whole _) mS2 (Memref.isWhole_whole _) mB2 (Memref.isWhole_whole _) mKf (Memref.isWhole_whole _) mXb (Memref.isWhole_whole _) mHid (Memref.isWhole_whole _) cc0_scratch12 cc0_scratch13 cc0_scratch14 v1641 v1647 k acc

/-- The arrays a trip reads, and the core's waits. -/
abbrev tripR : sProp 𝕄 := iprop(pt c mXb fx ∗ pt c mS1 fs ∗ pt c mB1 fb ∗ (∃ W, owes (c : Thread nD τ) 0 W))

set_option backward.proofsInPublic true in
/-- A trip that refills: slab `k` arrives, its product and activation are stored, slab `k + 5` goes out into the same slots. -/
theorem trip_refill (k : Fin k0_t1_loop.trips) (hk : k.val + 5 < 14) (fh : BufOf F c mHid) (acc : FVec F S48x128 .f32) :
    iprop(tripR c fx fs fb ∗ pt c mHid fh ∗ infl c fw (Ring.sl 5 k.val) (Ring.bk 14 k.val) ∗ homeG c fw (Ring.bk 14 (k.val + 5)))
      ⊢ wp frame (wpE (defs₀ (F := F)) Variants.none c none) Set.univ (tripG a9 h9 a10 h10 a11 h11 a12 h12 v1641 v1647 k acc)
        (fun r => iprop(⌜r = maxOf acc (preV c fw fx fs k) (btile c fb k)⌝ ∗ tripR c fx fs fb
          ∗ pt c mHid (mHid.view.writes (Elt F) fh [⟨Rect.unit (s := S48x7168) (k0_off23 k) S48x512.size (k0_off23_inb k), slabOf (preV c fw fx fs k) (btile c fb k)⟩])
          ∗ infl c fw (Ring.sl 5 k.val) (Ring.bk 14 (k.val + 5)) ∗ homeG c fw (Ring.bk 14 k.val))) := by
  have hc1 := (cond1_iff k).2 hk
  have hc2 := (cond2_iff k).2 hk
  have hc3 := (cond3_iff k).2 hk
  have hc4 := (cond4_iff k).2 hk
  unfold tripG k0_t1_body
  iintro ⟨⟨Hx, Hs, Hb, ⟨%W, HW⟩⟩, Hh, ⟨⟨%f0, H0⟩, ⟨%f1, H1⟩, ⟨%f2, H2⟩, ⟨%f3, H3⟩⟩, ⟨Hb0, Hb1, Hb2, Hb3⟩⟩
  sl_exec
  sl_step
  isplitr
  · ipureintro; rfl
  isplitl [Hx Hs Hb HW]
  · isplitl [Hx]; · iexact Hx
    isplitl [Hs]; · iexact Hs
    isplitl [Hb]; · iexact Hb
    iexists _; iexact HW
  isplitl [Hh]; · iexact Hh
  isplitl [H0 H1 H2 H3]
  · isplitl [H0]
    · iexists ((rslot (Ring.sl 5 k.val) 0).view.writes (Elt F) (rslot (Ring.sl 5 k.val) 0).view.junk [⟨Rect.whole S4096x512, ReadAs.same.apply ((blk (Ring.bk 14 k.val) 0).view.read (Elt F) fw)⟩])
      irw [flightP_after]; iexact H0
    isplitl [H1]
    · iexists ((rslot (Ring.sl 5 k.val) 1).view.writes (Elt F) (rslot (Ring.sl 5 k.val) 1).view.junk [⟨Rect.whole S4096x512, ReadAs.same.apply ((blk (Ring.bk 14 k.val) 1).view.read (Elt F) fw)⟩])
      irw [flightP_after]; iexact H1
    isplitl [H2]
    · iexists ((rslot (Ring.sl 5 k.val) 2).view.writes (Elt F) (rslot (Ring.sl 5 k.val) 2).view.junk [⟨Rect.whole S4096x512, ReadAs.same.apply ((blk (Ring.bk 14 k.val) 2).view.read (Elt F) fw)⟩])
      irw [flightP_after]; iexact H2
    iexists ((rslot (Ring.sl 5 k.val) 3).view.writes (Elt F) (rslot (Ring.sl 5 k.val) 3).view.junk [⟨Rect.whole S4096x512, ReadAs.same.apply ((blk (Ring.bk 14 k.val) 3).view.read (Elt F) fw)⟩])
    irw [flightP_after]; iexact H3
  isplitl [H0_src]; · iexact H0_src
  isplitl [H1_src]; · iexact H1_src
  isplitl [H2_src]; · iexact H2_src
  iexact H3_src

set_option backward.proofsInPublic true in
/-- A trip past the last refill: the slots are free after it. -/
theorem trip_tail (k : Fin k0_t1_loop.trips) (hk : ¬ k.val + 5 < 14) (fh : BufOf F c mHid) (acc : FVec F S48x128 .f32) :
    iprop(tripR c fx fs fb ∗ pt c mHid fh ∗ infl c fw (Ring.sl 5 k.val) (Ring.bk 14 k.val))
      ⊢ wp frame (wpE (defs₀ (F := F)) Variants.none c none) Set.univ (tripG a9 h9 a10 h10 a11 h11 a12 h12 v1641 v1647 k acc)
        (fun r => iprop(⌜r = maxOf acc (preV c fw fx fs k) (btile c fb k)⌝ ∗ tripR c fx fs fb
          ∗ pt c mHid (mHid.view.writes (Elt F) fh [⟨Rect.unit (s := S48x7168) (k0_off23 k) S48x512.size (k0_off23_inb k), slabOf (preV c fw fx fs k) (btile c fb k)⟩])
          ∗ freeG c (Ring.sl 5 k.val) ∗ homeG c fw (Ring.bk 14 k.val))) := by
  have hc1 := fun h => hk ((cond1_iff k).1 h)
  have hc2 := fun h => hk ((cond2_iff k).1 h)
  have hc3 := fun h => hk ((cond3_iff k).1 h)
  have hc4 := fun h => hk ((cond4_iff k).1 h)
  unfold tripG k0_t1_body
  iintro ⟨⟨Hx, Hs, Hb, ⟨%W, HW⟩⟩, Hh, ⟨⟨%f0, H0⟩, ⟨%f1, H1⟩, ⟨%f2, H2⟩, ⟨%f3, H3⟩⟩⟩
  sl_exec
  sl_step
  isplitr
  · ipureintro; rfl
  isplitl [Hx Hs Hb HW]
  · isplitl [Hx]; · iexact Hx
    isplitl [Hs]; · iexact Hs
    isplitl [Hb]; · iexact Hb
    iexists _; iexact HW
  isplitl [Hh]; · iexact Hh
  isplitl [H0 H1 H2 H3 H0_dst H1_dst H2_dst H3_dst]
  · isplitl [H0 H0_dst]
    · isplitl [H0]; · iexact H0
      iexists _; iexact H0_dst
    isplitl [H1 H1_dst]
    · isplitl [H1]; · iexact H1
      iexists _; iexact H1_dst
    isplitl [H2 H2_dst]
    · isplitl [H2]; · iexact H2
      iexists _; iexact H2_dst
    isplitl [H3]; · iexact H3
    iexists _; iexact H3_dst
  isplitl [H0_src]; · iexact H0_src
  isplitl [H1_src]; · iexact H1_src
  isplitl [H2_src]; · iexact H2_src
  iexact H3_src

end Trip

end Cert.Proof.KI

end
-- ==== Proof.Run.Loop.lean ====
module
public import proofs.«01_k».proof.Proof.Run.Trip

@[expose] public section
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-! ## The loop: five groups of the ring in turn, fourteen slabs -/

section Loop
variable (c : Dev nD) (fw : BufOf F c hW1)

/-- What group `p % 5` holds from trip `p - 5`'s end on: slab `p` in flight, or, past the last slab, nothing. -/
def role (p : ℕ) : sProp 𝕄 := if p < 14 then infl c fw (Ring.sl 5 p) (Ring.bk 14 p) else freeG (F := F) c (Ring.sl 5 p)
theorem role_lt {p : ℕ} (h : p < 14) : role c fw p = infl c fw (Ring.sl 5 p) (Ring.bk 14 p) := if_pos h
theorem role_ge {p : ℕ} (h : ¬ p < 14) : role c fw p = freeG (F := F) c (Ring.sl 5 p) := if_neg h

/-- Trip `k`'s homes when it refills: slab `k + 5` (about to go out) beside the rest; -/
theorem homes_here (k : ℕ) (hk : k + 5 < 14) :
    bigSep (Ring.homeSet 5 k) (homeG c fw) = iprop(homeG c fw (Ring.bk 14 (k + 5)) ∗ bigSep ((Ring.homeSet 5 k).erase (Ring.bk 14 (k + 5))) (homeG c fw)) := by
  conv_lhs => rw [Ring.homeSet_out 5 k hk, bigSep_insert (Ring.bkL_not_mem_erase 5 k)]
  rfl
/-- the next trip's: slab `k` (just back) beside that rest; -/
theorem homes_next (k : ℕ) (hk : k + 5 < 14) :
    bigSep (Ring.homeSet 5 (k + 1)) (homeG c fw) = iprop(homeG c fw (Ring.bk 14 k) ∗ bigSep ((Ring.homeSet 5 k).erase (Ring.bk 14 (k + 5))) (homeG c fw)) := by
  conv_lhs => rw [Ring.homeSet_succ 5 k hk, bigSep_insert (Ring.bk_not_mem_erase 5 k (by omega) (by decide))]
  rfl
/-- past the last refill slab `k` only comes back. -/
theorem homes_next_tail (k : ℕ) (hk : ¬ k + 5 < 14) (hk' : k < 14) :
    bigSep (Ring.homeSet 5 (k + 1)) (homeG c fw) = iprop(homeG c fw (Ring.bk 14 k) ∗ bigSep (Ring.homeSet 5 k) (homeG c fw)) := by
  conv_lhs => rw [Ring.homeSet_succ_tail 5 k (by omega) hk', bigSep_insert (Ring.bk_not_mem_homeSet 5 k hk' (by decide))]
  rfl

variable (fx : BufOf F c mXb) (fs : BufOf F c mS1) (fb : BufOf F c mB1) (fh : BufOf F c mHid)

/-- The invariant before trip `k`. -/
def inv (k : ℕ) (acc : FVec F S48x128 .f32) : sProp 𝕄 :=
  iprop(⌜acc = accAt c fw fx fs fb k⌝ ∗ tripR c fx fs fb ∗ pt c mHid (hidAt c fw fx fs fb fh k)
    ∗ role c fw k ∗ role c fw (k + 1) ∗ role c fw (k + 2) ∗ role c fw (k + 3) ∗ role c fw (k + 4)
    ∗ bigSep (Ring.homeSet 5 k) (homeG c fw))

variable (a9 : Memref sig .tc .vmem S6x7x512 .fp8e4m3) (h9 : a9.IsWhole) (a10 : Memref sig .tc .vmem S6x1x7 .f32) (h10 : a10.IsWhole)
  (a11 : Memref sig .tc .vmem S6x7x7168 .fp8e4m3) (h11 : a11.IsWhole) (a12 : Memref sig .tc .vmem S6x1x7 .f32) (h12 : a12.IsWhole)
  (v1641 v1647 : FVec F S48x128 .f32)

/-- A trip takes the invariant to the next trip's. -/
theorem inv_step (k : Fin k0_t1_loop.trips) (acc : FVec F S48x128 .f32) :
    inv c fw fx fs fb fh k.val acc ⊢ wp frame (wpE (defs₀ (F := F)) Variants.none c none) Set.univ (tripG a9 h9 a10 h10 a11 h11 a12 h12 v1641 v1647 k acc)
      (inv c fw fx fs fb fh (k.val + 1)) := by
  have hk14 : k.val < 14 := trips_eq ▸ k.isLt
  have e5 : Ring.sl 5 (k.val + 1 + 4) = Ring.sl 5 k.val := Ring.sl_add 5 k.val
  by_cases hk : k.val + 5 < 14
  · have er : role c fw (k.val + 1 + 4) = infl c fw (Ring.sl 5 k.val) (Ring.bk 14 (k.val + 5)) := by
      rw [role_lt c fw (show k.val + 1 + 4 < 14 by omega), e5]
    unfold inv
    rw [role_lt c fw hk14, homes_here c fw k.val hk]
    iintro ⟨%ha, HR, Hh, H0, H1, H2, H3, H4, ⟨Hout, Hrest⟩⟩
    iapply (wp_wand_r Idealize.ShloMosaic.frame (wpE (defs₀ (F := F)) Variants.none (c : Thread nD τ) none) Set.univ)
    isplitl [HR Hh H0 Hout]
    · iapply (trip_refill c a9 h9 a10 h10 a11 h11 a12 h12 fw fx fs fb v1641 v1647 k hk _ acc)
      isplitl [HR]; · iexact HR
      isplitl [Hh]; · iexact Hh
      isplitl [H0]; · iexact H0
      iexact Hout
    · iintro %r ⟨%hr, HR, Hh, H5, Hback⟩
      irw [er, homes_next c fw k.val hk, hidAt_succ]
      isplitr
      · ipureintro; rw [accAt_succ, ← ha]; exact hr
      isplitl [HR]; · iexact HR
      isplitl [Hh]; · iexact Hh
      isplitl [H1]; · iexact H1
      isplitl [H2]; · iexact H2
      isplitl [H3]; · iexact H3
      isplitl [H4]; · iexact H4
      isplitl [H5]; · iexact H5
      isplitl [Hback]; · iexact Hback
      iexact Hrest
  · have er : role c fw (k.val + 1 + 4) = freeG (F := F) c (Ring.sl 5 k.val) := by
      rw [role_ge c fw (show ¬ k.val + 1 + 4 < 14 by omega), e5]
    unfold inv
    rw [role_lt c fw hk14]
    iintro ⟨%ha, HR, Hh, H0, H1, H2, H3, H4, Hrest⟩
    iapply (wp_wand_r Idealize.ShloMosaic.frame (wpE (defs₀ (F := F)) Variants.none (c : Thread nD τ) none) Set.univ)
    isplitl [HR Hh H0]
    · iapply (trip_tail c a9 h9 a10 h10 a11 h11 a12 h12 fw fx fs fb v1641 v1647 k hk _ acc)
      isplitl [HR]; · iexact HR
      isplitl [Hh]; · iexact Hh
      iexact H0
    · iintro %r ⟨%hr, HR, Hh, H5, Hback⟩
      irw [er, homes_next_tail c fw k.val hk hk14, hidAt_succ]
      isplitr
      · ipureintro; rw [accAt_succ, ← ha]; exact hr
      isplitl [HR]; · iexact HR
      isplitl [Hh]; · iexact Hh
      isplitl [H1]; · iexact H1
      isplitl [H2]; · iexact H2
      isplitl [H3]; · iexact H3
      isplitl [H4]; · iexact H4
      isplitl [H5]; · iexact H5
      isplitl [Hback]; · iexact Hback
      iexact Hrest

/-- Every group free. -/
abbrev allFree : sProp 𝕄 := iprop(freeG (F := F) c 0 ∗ freeG (F := F) c 1 ∗ freeG (F := F) c 2 ∗ freeG (F := F) c 3 ∗ freeG (F := F) c 4)
/-- The first five slabs in flight, one a group. -/
abbrev allInfl : sProp 𝕄 := iprop(infl c fw 0 0 ∗ infl c fw 1 1 ∗ infl c fw 2 2 ∗ infl c fw 3 3 ∗ infl c fw 4 4)

/-- The loop: the first five slabs in flight and the others home before it; all home, the ring free, the hidden array
    filled after it. -/
theorem loop_run :
    iprop(tripR c fx fs fb ∗ pt c mHid fh ∗ allInfl c fw ∗ bigSep (Ring.homeSet 5 0) (homeG c fw))
      ⊢ wp frame (wpE (defs₀ (F := F)) Variants.none c none) Set.univ
        (Scf.Loop.for k0_t1_loop k0_t1_ok k0_pay286 (tripG a9 h9 a10 h10 a11 h11 a12 h12 v1641 v1647))
        (fun acc => iprop(⌜acc = accAt c fw fx fs fb 14⌝ ∗ tripR c fx fs fb ∗ pt c mHid (hidAt c fw fx fs fb fh 14)
          ∗ allFree (F := F) c ∗ bigSep Finset.univ (homeG c fw))) := by
  iintro ⟨HR, Hh, ⟨H0, H1, H2, H3, H4⟩, Hrest⟩
  iapply (Scf.wp_for Idealize.ShloMosaic.frame (wpE (defs₀ (F := F)) Variants.none (c : Thread nD τ) none) Set.univ k0_t1_loop.lb k0_t1_loop.ub k0_t1_loop.st k0_t1_ok k0_pay286
    (tripG a9 h9 a10 h10 a11 h11 a12 h12 v1641 v1647) (inv c fw fx fs fb fh) (inv_step c fw fx fs fb fh a9 h9 a10 h10 a11 h11 a12 h12 v1641 v1647))
  isplitl
  · unfold inv
    irw [role_lt c fw (show 0 < 14 by decide), role_lt c fw (show 0 + 1 < 14 by decide), role_lt c fw (show 0 + 2 < 14 by decide), role_lt c fw (show 0 + 3 < 14 by decide), role_lt c fw (show 0 + 4 < 14 by decide)]
    isplitr
    · ipureintro; rfl
    isplitl [HR]; · iexact HR
    isplitl [Hh]; · iexact Hh
    isplitl [H0]; · iexact H0
    isplitl [H1]; · iexact H1
    isplitl [H2]; · iexact H2
    isplitl [H3]; · iexact H3
    isplitl [H4]; · iexact H4
    iexact Hrest
  · iintro %acc H
    have e : Scf.trips k0_t1_loop.lb k0_t1_loop.ub k0_t1_loop.st = 14 := trips_eq
    rw [e]
    unfold inv
    rw [role_ge c fw (show ¬ 14 < 14 by decide), role_ge c fw (show ¬ 14 + 1 < 14 by decide), role_ge c fw (show ¬ 14 + 2 < 14 by decide), role_ge c fw (show ¬ 14 + 3 < 14 by decide), role_ge c fw (show ¬ 14 + 4 < 14 by decide), Ring.homeSet_last 5 14 (le_refl 14)]
    icases H with ⟨%ha, HR, Hh, H4, H0, H1, H2, H3, Hrest⟩
    isplitr
    · ipureintro; exact ha
    isplitl [HR]; · iexact HR
    isplitl [Hh]; · iexact Hh
    isplitl [H0 H1 H2 H3 H4]
    · isplitl [H0]; · iexact H0
      isplitl [H1]; · iexact H1
      isplitl [H2]; · iexact H2
      isplitl [H3]; · iexact H3
      iexact H4
    iexact Hrest

end Loop

end Cert.Proof.KI

end
-- ==== Proof.Run.Hid.lean ====
module
public import proofs.«01_k».proof.Proof.Run.Loop
public import Idealize.ShloMosaic.Lib.WritesUnit
public import Idealize.ShloMosaic.Lib.Pointwise

/-! What the buffer of activations holds after the loop, element by element, and that nothing of what it held before is left. -/

@[expose] public section
noncomputable section
namespace Cert.Proof.KI
open Cert.KernelIdeal Cert.KernelIdeal.Gen
open Idealize.ShloMosaic Idealize.ShloMosaic.TcCoe Idealize.ShloMosaic.Tactic
open Idealize.SL.Sem
variable {F : FTy → Type} [FloatOps F]

variable (c : Dev nD) (fw : BufOf F c hW1) (fx : BufOf F c mXb) (fs : BufOf F c mS1) (fb : BufOf F c mB1)

/-- After `n` trips, column `512 k + l` of the buffer holds column `l` of slab `k`, for every `k < n`. -/
theorem hid_read (fh : BufOf F c mHid) (k : Fin k0_t1_loop.trips) (y : S48x7168.Idx) (x : S48x512.Idx)
    (h0 : (y (0 : Fin 2)).val = (x (0 : Fin 2)).val) (h1 : (y (1 : Fin 2)).val = 512 * k.val + (x (1 : Fin 2)).val) :
    ∀ n : ℕ, n ≤ 14 → k.val < n →
      mHid.view.read (Elt F) (hidAt c fw fx fs fb fh n) y = slabOf (preV c fw fx fs k) (btile c fb k) x := by
  intro n
  induction n with
  | zero => intro _ h; omega
  | succ n ih =>
    intro hn hk
    have hn' : n < k0_t1_loop.trips := by rw [trips_eq]; omega
    have hs := hidAt_succ c fw fx fs fb ⟨n, hn'⟩ fh
    simp only at hs
    rw [hs]
    have hoff : k0_off23 ⟨n, hn'⟩ = ![0, 512 * n] := by
      rw [off23_eq]; unfold colOff; rw [show (Ring.bk 14 n).val = n from Nat.mod_eq_of_lt (by omega)]
    by_cases hkn : k.val = n
    · obtain rfl : k = ⟨n, hn'⟩ := Fin.ext hkn
      refine View.read_writes_cons_unit_of_mem mHid.view _ _ _ [] y x hoff fun a => ?_
      fin_cases a
      · simpa using h0
      · exact h1
    · rw [View.read_writes_cons_unit_of_not_mem mHid.view _ _ _ [] y hoff (1 : Fin 2) (Or.inl (by
        have := (x (1 : Fin 2)).isLt
        have h512 : (x (1 : Fin 2)).val < 512 := this
        show (y (1 : Fin 2)).val < 512 * n
        omega))]
      exact ih (by omega) (by omega)

/-- Reading the whole buffer through its own view. -/
theorem read_mHid (f : BufOf F c mHid) : mHid.view.read (Elt F) f = f := rfl

/-- So what the buffer held before the loop does not matter. -/
theorem hidAt_rebase (fh fh' : BufOf F c mHid) : hidAt c fw fx fs fb fh 14 = hidAt c fw fx fs fb fh' 14 := by
  rw [← read_mHid c (hidAt c fw fx fs fb fh 14), ← read_mHid c (hidAt c fw fx fs fb fh' 14)]
  refine funext fun (y : S48x7168.Idx) => ?_
  have hy : (y (1 : Fin 2)).val < 7168 := (y (1 : Fin 2)).isLt
  have hk : (y (1 : Fin 2)).val / 512 < k0_t1_loop.trips := by rw [trips_eq]; omega
  have hl : (y (1 : Fin 2)).val % 512 < 512 := Nat.mod_lt _ (by norm_num)
  have h1 : (y (1 : Fin 2)).val = 512 * ((y (1 : Fin 2)).val / 512) + (y (1 : Fin 2)).val % 512 := by omega
  have hlt : (y (1 : Fin 2)).val / 512 < 14 := by omega
  rw [hid_read c fw fx fs fb fh ⟨_, hk⟩ y (ix2 (y (0 : Fin 2)) ⟨_, hl⟩) rfl h1 14 le_rfl hlt,
    hid_read c fw fx fs fb fh' ⟨_, hk⟩ y (ix2 (y (0 : Fin 2)) ⟨_, hl⟩) rfl h1 14 le_rfl hlt]

end Cert.Proof.KI
end
-- ==== Proof.Run.Body.lean ====
module
public import proofs.«01_k».proof.Proof.Run.Hid

/-! The whole body of the kernel, run once: from the operands, the cells at zero and every array of the kernel at any contents,
to the operands unchanged, the cells at zero and each result written with contents that depend on the operands alone. -/

@[expose] public section
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

section
variable (c : Dev nD)
  (a9 : Memref sig .tc .vmem S6x7x512 .fp8e4m3) (h9 : a9.IsWhole) (a10 : Memref sig .tc .vmem S6x1x7 .f32) (h10 : a10.IsWhole)
  (a11 : Memref sig .tc .vmem S6x7x7168 .fp8e4m3) (h11 : a11.IsWhole) (a12 : Memref sig .tc .vmem S6x1x7 .f32) (h12 : a12.IsWhole)
  (gKc : BufOf F c hKc) (gKs : BufOf F c hKs) (gPos : BufOf F c hPos) (gW1 : BufOf F c hW1) (gS1 : BufOf F c hS1) (gB1 : BufOf F c hB1)
  (gW2 : BufOf F c hW2) (gS2 : BufOf F c hS2) (gB2 : BufOf F c hB2)

/-- The operands, all but the first weight. -/
abbrev opsP : sProp 𝕄 := iprop(pt c hKc gKc ∗ pt c hKs gKs ∗ pt c hPos gPos ∗ pt c hS1 gS1 ∗ pt c hB1 gB1 ∗ pt c hW2 gW2 ∗ pt c hS2 gS2 ∗ pt c hB2 gB2)
/-- The kernel's own transfer cells, all but the ring's. -/
abbrev cellsP : sProp 𝕄 := iprop(semVal ((c : Thread nD τ), SemLoc.dma 4) 0 ∗ semVal ((c : Thread nD τ), SemLoc.dma 5) 0 ∗ semVal ((c : Thread nD τ), SemLoc.dma 6) 0
  ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
  ∗ semVal ((c : Thread nD τ), SemLoc.dma 31) 0)
/-- The kernel's own arrays, all but the ring, at some contents. -/
abbrev scrP : sProp 𝕄 := iprop((∃ f, pt (F := F) c mKc f) ∗ (∃ f, pt (F := F) c mKs f) ∗ (∃ f, pt (F := F) c mPos f) ∗ (∃ f, pt (F := F) c mS1 f) ∗ (∃ f, pt (F := F) c mB1 f) ∗ (∃ f, pt (F := F) c mW2 f)
  ∗ (∃ f, pt (F := F) c mS2 f) ∗ (∃ f, pt (F := F) c mB2 f) ∗ (∃ f, pt (F := F) c mKf f) ∗ (∃ f, pt (F := F) c mXb f) ∗ (∃ f, pt (F := F) c mHid f))
abbrev outP {sp : Space} {S : Shape} {e : EltTy} (M : Memref sig .tc sp S e) (f : Buf (Elt F) (M.view.loc (c : Thread nD τ))) : sProp 𝕄 :=
  M.view.loc (c : Thread nD τ) ↦[M.view.set]{fullShare} f

set_option backward.proofsInPublic true in
set_option maxHeartbeats 40000000 in
/-- The body's run. The pieces it leaves in the four results are found by running it. -/
def bodyRun : Σ' (L9 : List (View.Piece (Elt F) S6x7x512 .fp8e4m3)) (L10 : List (View.Piece (Elt F) S6x1x7 .f32))
      (L11 : List (View.Piece (Elt F) S6x7x7168 .fp8e4m3)) (L12 : List (View.Piece (Elt F) S6x1x7 .f32)),
    ∀ (K : PUnit → sProp 𝕄),
    iprop(opsP c gKc gKs gPos gS1 gB1 gW2 gS2 gB2 ∗ (homeG c gW1 0 ∗ homeG c gW1 1 ∗ homeG c gW1 2 ∗ homeG c gW1 3 ∗ homeG c gW1 4) ∗ bigSep (Ring.homeSet 5 0) (homeG c gW1)
       ∗ cellsP c ∗ scrP (F := F) c ∗ allFree (F := F) c ∗ (∃ W, owes (c : Thread nD τ) 0 W)
       ∗ (∃ f, outP (F := F) c a9 f) ∗ (∃ f, outP (F := F) c a10 f) ∗ (∃ f, outP (F := F) c a11 f) ∗ (∃ f, outP (F := F) c a12 f)
       ∗ (iprop(opsP c gKc gKs gPos gS1 gB1 gW2 gS2 gB2 ∗ bigSep Finset.univ (homeG c gW1)
            ∗ cellsP c ∗ scrP (F := F) c ∗ allFree (F := F) c ∗ (∃ W, owes (c : Thread nD τ) 0 W)
            ∗ (∃ f, outP (F := F) c a9 (a9.view.writes (Elt F) f L9)) ∗ (∃ f, outP (F := F) c a10 (a10.view.writes (Elt F) f L10))
            ∗ (∃ f, outP (F := F) c a11 (a11.view.writes (Elt F) f L11)) ∗ (∃ f, outP (F := F) c a12 (a12.view.writes (Elt F) f L12))) -∗ K ⟨⟩))
      ⊢ wp frame (wpE (defs₀ (F := F)) Variants.none c none) Set.univ
        (cc0_compressed_keys hKc (Memref.isWhole_whole _) hKs (Memref.isWhole_whole _) hPos (Memref.isWhole_whole _) hW1 (Memref.isWhole_whole _) hS1 (Memref.isWhole_whole _) hB1 (Memref.isWhole_whole _) hW2 (Memref.isWhole_whole _) hS2 (Memref.isWhole_whole _) hB2 (Memref.isWhole_whole _) a9 h9 a10 h10 a11 h11 a12 h12 mRing (Memref.isWhole_whole _) mKc (Memref.isWhole_whole _) mKs (Memref.isWhole_whole _) mPos (Memref.isWhole_whole _) mS1 (Memref.isWhole_whole _) mB1 (Memref.isWhole_whole _) mW2 (Memref.isWhole_whole _) mS2 (Memref.isWhole_whole _) mB2 (Memref.isWhole_whole _) mKf (Memref.isWhole_whole _) mXb (Memref.isWhole_whole _) mHid (Memref.isWhole_whole _) cc0_scratch12 cc0_scratch13 cc0_scratch14) K := by
  refine ⟨?_, ?_, ?_, ?_, fun K => ?run⟩
  case run =>
    rw [cc0_compressed_keys_eq_skeleton]
    unfold cc0_compressed_keys_skel
    iintro ⟨⟨HKc, HKs, HPos, HS1, HB1, HW2, HS2, HB2⟩, ⟨⟨A00, A01, A02, A03⟩, ⟨A10, A11, A12, A13⟩, ⟨A20, A21, A22, A23⟩, ⟨A30, A31, A32, A33⟩, ⟨A40, A41, A42, A43⟩⟩, Hrest,
      ⟨C4, C5, C6, C7, C8, C9, C10, C31⟩, ⟨⟨%fKc, MKc⟩, ⟨%fKs, MKs⟩, ⟨%fPos, MPos⟩, ⟨%fS1, MS1⟩, ⟨%fB1, MB1⟩, ⟨%fW2, MW2⟩, ⟨%fS2, MS2⟩, ⟨%fB2, MB2⟩, ⟨%fKf, MKf⟩, ⟨%fXb, MXb⟩, ⟨%fHid, MHid⟩⟩,
      ⟨⟨⟨R00, ⟨%e00, S00⟩⟩, ⟨R01, ⟨%e01, S01⟩⟩, ⟨R02, ⟨%e02, S02⟩⟩, ⟨R03, ⟨%e03, S03⟩⟩⟩, ⟨⟨R10, ⟨%e10, S10⟩⟩, ⟨R11, ⟨%e11, S11⟩⟩, ⟨R12, ⟨%e12, S12⟩⟩, ⟨R13, ⟨%e13, S13⟩⟩⟩,
       ⟨⟨R20, ⟨%e20, S20⟩⟩, ⟨R21, ⟨%e21, S21⟩⟩, ⟨R22, ⟨%e22, S22⟩⟩, ⟨R23, ⟨%e23, S23⟩⟩⟩, ⟨⟨R30, ⟨%e30, S30⟩⟩, ⟨R31, ⟨%e31, S31⟩⟩, ⟨R32, ⟨%e32, S32⟩⟩, ⟨R33, ⟨%e33, S33⟩⟩⟩,
       ⟨⟨R40, ⟨%e40, S40⟩⟩, ⟨R41, ⟨%e41, S41⟩⟩, ⟨R42, ⟨%e42, S42⟩⟩, ⟨R43, ⟨%e43, S43⟩⟩⟩⟩, ⟨%W, HW⟩,
      ⟨%f9, O9⟩, ⟨%f10, O10⟩, ⟨%f11, O11⟩, ⟨%f12, O12⟩, Hk⟩
    have wKc : ∀ d, mKc.view.write (Elt F) fKc d Finset.univ = d := fun d => View.write_whole_univ _ _ _
    have wKs : ∀ d, mKs.view.write (Elt F) fKs d Finset.univ = d := fun d => View.write_whole_univ _ _ _
    have wPos : ∀ d, mPos.view.write (Elt F) fPos d Finset.univ = d := fun d => View.write_whole_univ _ _ _
    have wS1 : ∀ d, mS1.view.write (Elt F) fS1 d Finset.univ = d := fun d => View.write_whole_univ _ _ _
    have wB1 : ∀ d, mB1.view.write (Elt F) fB1 d Finset.univ = d := fun d => View.write_whole_univ _ _ _
    have wW2 : ∀ d, mW2.view.write (Elt F) fW2 d Finset.univ = d := fun d => View.write_whole_univ _ _ _
    have wS2 : ∀ d, mS2.view.write (Elt F) fS2 d Finset.univ = d := fun d => View.write_whole_univ _ _ _
    have wB2 : ∀ d, mB2.view.write (Elt F) fB2 d Finset.univ = d := fun d => View.write_whole_univ _ _ _
    set_option sl_exec.stopBefore "k0_part12" in
      sl_exec
    rw [wKc, wKs, wPos, wS1, wB1, wS2, wB2]
    set_option sl_exec.stopBefore "k0_part13" in
      sl_exec
    rw [wW2]
    sl_exec!
    irw [Idealize.SL.Sem.wp_bind]
    iapply (wp_wand_r Idealize.ShloMosaic.frame (wpE (defs₀ (F := F)) Variants.none (c : Thread nD τ) none) Set.univ)
    isplitl [MXb MS1 MB1 HW MHid R00 R01 R02 R03 R10 R11 R12 R13 R20 R21 R22 R23 R30 R31 R32 R33 R40 R41 R42 R43 Hrest]
    · iapply (loop_run c gW1 _ _ _ _ a9 h9 a10 h10 a11 h11 a12 h12 _ _)
      isplitl [MXb MS1 MB1 HW]
      · isplitl [MXb]; · iexact MXb
        isplitl [MS1]; · iexact MS1
        isplitl [MB1]; · iexact MB1
        iexists _; iexact HW
      isplitl [MHid]; · iexact MHid
      isplitl [R00 R01 R02 R03 R10 R11 R12 R13 R20 R21 R22 R23 R30 R31 R32 R33 R40 R41 R42 R43]
      · isplitl [R00 R01 R02 R03]
        · isplitl [R00]; · iexists e00; iexact R00
          isplitl [R01]; · iexists e01; iexact R01
          isplitl [R02]; · iexists e02; iexact R02
          iexists e03; iexact R03
        isplitl [R10 R11 R12 R13]
        · isplitl [R10]; · iexists e10; iexact R10
          isplitl [R11]; · iexists e11; iexact R11
          isplitl [R12]; · iexists e12; iexact R12
          iexists e13; iexact R13
        isplitl [R20 R21 R22 R23]
        · isplitl [R20]; · iexists e20; iexact R20
          isplitl [R21]; · iexists e21; iexact R21
          isplitl [R22]; · iexists e22; iexact R22
          iexists e23; iexact R23
        isplitl [R30 R31 R32 R33]
        · isplitl [R30]; · iexists e30; iexact R30
          isplitl [R31]; · iexists e31; iexact R31
          isplitl [R32]; · iexists e32; iexact R32
          iexists e33; iexact R33
        isplitl [R40]; · iexists e40; iexact R40
        isplitl [R41]; · iexists e41; iexact R41
        isplitl [R42]; · iexists e42; iexact R42
        iexists e43; iexact R43
      iexact Hrest
    · iintro %r ⟨%hr, ⟨Tx, Ts, Tb, ⟨%W2, TW⟩⟩, Th, TF, Tall⟩
      subst hr
      rw [hidAt_rebase c gW1 _ _ _ fHid mHid.view.junk]
      sl_exec
      sl_step
      iapply Hk
      isplitl [HKc HKs HPos HS1 HB1 HW2 HS2 HB2]
      · isplitl [HKc]; · iexact HKc
        isplitl [HKs]; · iexact HKs
        isplitl [HPos]; · iexact HPos
        isplitl [HS1]; · iexact HS1
        isplitl [HB1]; · iexact HB1
        isplitl [HW2]; · iexact HW2
        isplitl [HS2]; · iexact HS2
        iexact HB2
      isplitl [Tall]
      · iexact Tall
      isplitl [C4 C5 C6 C7 C8 C9 C10 C31]
      · isplitl [C4]; · iexact C4
        isplitl [C5]; · iexact C5
        isplitl [C6]; · iexact C6
        isplitl [C7]; · iexact C7
        isplitl [C8]; · iexact C8
        isplitl [C9]; · iexact C9
        isplitl [C10]; · iexact C10
        iexact C31
      isplitl [MKc MKs MPos Ts Tb MW2 MS2 MB2 MKf Tx Th]
      · isplitl [MKc]; · iexists _; iexact MKc
        isplitl [MKs]; · iexists _; iexact MKs
        isplitl [MPos]; · iexists _; iexact MPos
        isplitl [Ts]; · iexists _; iexact Ts
        isplitl [Tb]; · iexists _; iexact Tb
        isplitl [MW2]; · iexists _; iexact MW2
        isplitl [MS2]; · iexists _; iexact MS2
        isplitl [MB2]; · iexists _; iexact MB2
        isplitl [MKf]; · iexists _; iexact MKf
        isplitl [Tx]; · iexists _; iexact Tx
        iexists _; iexact Th
      isplitl [TF]
      · iexact TF
      isplitl [TW]
      · iexists _; iexact TW
      isplitl [O9]
      · iexists _; iexact O9
      isplitl [O10]
      · iexists _; iexact O10
      isplitl [O11]
      · iexists _; iexact O11
      iexists _; iexact O12
end

end Cert.Proof.KI
end
-- ==== Proof.Run.Out.lean ====
module
public import proofs.«01_k».proof.Proof.Run.Body

/-! The four results as functions of the operands: what the run's pieces hold. -/

@[expose] public section
noncomputable section
namespace Cert.Proof.KI
open Cert.KernelIdeal Cert.KernelIdeal.Gen
open Idealize.ShloMosaic Idealize.ShloMosaic.TcCoe Idealize.ShloMosaic.Tactic
open Idealize.SL.Sem
variable {F : FTy → Type} [FloatOps F]
variable (c : Dev nD)
  (a9 : Memref sig .tc .vmem S6x7x512 .fp8e4m3) (h9 : a9.IsWhole) (a10 : Memref sig .tc .vmem S6x1x7 .f32) (h10 : a10.IsWhole)
  (a11 : Memref sig .tc .vmem S6x7x7168 .fp8e4m3) (h11 : a11.IsWhole) (a12 : Memref sig .tc .vmem S6x1x7 .f32) (h12 : a12.IsWhole)
  (gKc : BufOf F c hKc) (gKs : BufOf F c hKs) (gPos : BufOf F c hPos) (gW1 : BufOf F c hW1) (gS1 : BufOf F c hS1) (gB1 : BufOf F c hB1)
  (gW2 : BufOf F c hW2) (gS2 : BufOf F c hS2) (gB2 : BufOf F c hB2)

/-- The keys, their scales, the quantised hidden rows, their scales. -/
def out9 : Vec F S6x7x512 .fp8e4m3 := k0_pay1 (bodyRun.sl.r_93 c gKc gKs gPos gW1 gS1 gB1 gW2 gS2 gB2) bodyRun.sl.cst_908 k0_pay310
def out10 : Vec F S6x1x7 .f32 := k0_pay3 (bodyRun.sl.r_90 c gKc gKs gPos gW1 gS1 gB1 gW2 gS2 gB2)
def out11 : Vec F S6x7x7168 .fp8e4m3 := bodyRun.sl.r_92 c gKc gKs gPos gW1 gS1 gB1
def out12 : Vec F S6x1x7 .f32 := k0_pay2 (bodyRun.sl.r_84 c gKc gKs gPos gW1 gS1 gB1)

theorem piece9 : (bodyRun c a9 h9 a10 h10 a11 h11 a12 h12 gKc gKs gPos gW1 gS1 gB1 gW2 gS2 gB2).1
    = [⟨Rect.unit (s := S6x7x512) ![0, 0, 0] S6x7x512.size inb_S6x7x512_S6x7x512_0_0_0, out9 c gKc gKs gPos gW1 gS1 gB1 gW2 gS2 gB2⟩] := rfl
theorem piece10 : (bodyRun c a9 h9 a10 h10 a11 h11 a12 h12 gKc gKs gPos gW1 gS1 gB1 gW2 gS2 gB2).2.1
    = [⟨Rect.unit (s := S6x1x7) ![0, 0, 0] S6x1x7.size inb_S6x1x7_S6x1x7_0_0_0, out10 c gKc gKs gPos gW1 gS1 gB1 gW2 gS2 gB2⟩] := rfl
theorem piece11 : (bodyRun c a9 h9 a10 h10 a11 h11 a12 h12 gKc gKs gPos gW1 gS1 gB1 gW2 gS2 gB2).2.2.1
    = [⟨Rect.unit (s := S6x7x7168) ![0, 0, 0] S6x7x7168.size inb_S6x7x7168_S6x7x7168_0_0_0, out11 c gKc gKs gPos gW1 gS1 gB1⟩] := rfl
theorem piece12 : (bodyRun c a9 h9 a10 h10 a11 h11 a12 h12 gKc gKs gPos gW1 gS1 gB1 gW2 gS2 gB2).2.2.2.1
    = [⟨Rect.unit (s := S6x1x7) ![0, 0, 0] S6x1x7.size inb_S6x1x7_S6x1x7_0_0_0, out12 c gKc gKs gPos gW1 gS1 gB1⟩] := rfl
end Cert.Proof.KI
end
-- ==== Proof.Run.Split.lean ====
module
public import proofs.«01_k».proof.Proof.Run.Names
public import Idealize.ShloMosaic.Lib.Tactic

/-! The first weight cut into the 56 blocks the transfers read, and the ring buffer cut into its 20 slots: each array held
whole is its pieces held one by one, and back. -/

@[expose] public section
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

theorem ent_of_eq {P Q : sProp 𝕄} (e : P = Q) : P ⊢ Q := e ▸ .rfl

/-- The elements of a block, of a slot. -/
def blkSet (p : Fin 14 × Fin 4) : Finset S16384x7168.Idx := (Rect.unit (s := S16384x7168) (blkOff p.1 p.2) S4096x512.size (blkOff_inb p.1 p.2)).set
def slotSet (p : Fin 5 × Fin 4) : Finset S20x4096x512.Idx := (Rect.unit (s := S20x4096x512) (slotOff p.1 p.2) S1x4096x512.size (slotOff_inb p.1 p.2)).set
theorem blk_set (b : Fin 14) (ch : Fin 4) : (blk b ch).view.set = blkSet (b, ch) := View.set_slice_whole main_v2 _
theorem rslot_set (s : Fin 5) (ch : Fin 4) : (rslot s ch).view.set = slotSet (s, ch) :=
  (View.set_reshape ((View.whole cc0_scratch0).slice _) _).trans (View.set_slice_whole cc0_scratch0 _)

theorem mem_blkSet (p : Fin 14 × Fin 4) (y : S16384x7168.Idx) :
    y ∈ blkSet p ↔ (y (0 : Fin 2)).val / 4096 = p.2.val ∧ (y (1 : Fin 2)).val / 512 = p.1.val := by
  unfold blkSet
  rw [Rect.mem_set_unit]
  have e0 : blkOff p.1 p.2 (0 : Fin 2) = 4096 * p.2.val := rfl
  have e1 : blkOff p.1 p.2 (1 : Fin 2) = 512 * p.1.val := rfl
  constructor
  · intro H
    have a0 : 4096 * p.2.val ≤ (y (0 : Fin 2)).val ∧ (y (0 : Fin 2)).val < 4096 * p.2.val + 4096 := H (0 : Fin 2)
    have a1 : 512 * p.1.val ≤ (y (1 : Fin 2)).val ∧ (y (1 : Fin 2)).val < 512 * p.1.val + 512 := H (1 : Fin 2)
    omega
  · intro H a
    fin_cases a
    · show 4096 * p.2.val ≤ (y (0 : Fin 2)).val ∧ (y (0 : Fin 2)).val < 4096 * p.2.val + 4096; omega
    · show 512 * p.1.val ≤ (y (1 : Fin 2)).val ∧ (y (1 : Fin 2)).val < 512 * p.1.val + 512; omega
theorem mem_slotSet (p : Fin 5 × Fin 4) (y : S20x4096x512.Idx) : y ∈ slotSet p ↔ (y (0 : Fin 3)).val = p.1.val * 4 + p.2.val := by
  unfold slotSet
  rw [Rect.mem_set_unit]
  have h1 : (y (1 : Fin 3)).val < 4096 := (y (1 : Fin 3)).isLt
  have h2 : (y (2 : Fin 3)).val < 512 := (y (2 : Fin 3)).isLt
  constructor
  · intro H
    have a0 : p.1.val * 4 + p.2.val ≤ (y (0 : Fin 3)).val ∧ (y (0 : Fin 3)).val < p.1.val * 4 + p.2.val + 1 := H (0 : Fin 3)
    omega
  · intro H a
    fin_cases a
    · show p.1.val * 4 + p.2.val ≤ (y (0 : Fin 3)).val ∧ (y (0 : Fin 3)).val < p.1.val * 4 + p.2.val + 1; omega
    · show 0 ≤ (y (1 : Fin 3)).val ∧ (y (1 : Fin 3)).val < 0 + 4096; omega
    · show 0 ≤ (y (2 : Fin 3)).val ∧ (y (2 : Fin 3)).val < 0 + 512; omega

theorem blk_disjoint (p q : Fin 14 × Fin 4) (h : p ≠ q) : Disjoint (blkSet p) (blkSet q) := by
  rw [Finset.disjoint_left]; intro y hy hy'; rw [mem_blkSet] at hy hy'
  exact h (Prod.ext (Fin.ext (hy.2.symm.trans hy'.2)) (Fin.ext (hy.1.symm.trans hy'.1)))
theorem blk_cover : (Finset.univ : Finset (Fin 14 × Fin 4)).biUnion blkSet = Finset.univ := by
  ext y; simp only [Finset.mem_biUnion, Finset.mem_univ, true_and, iff_true]
  have h0 : (y (0 : Fin 2)).val < 16384 := (y (0 : Fin 2)).isLt
  have h1 : (y (1 : Fin 2)).val < 7168 := (y (1 : Fin 2)).isLt
  exact ⟨(⟨(y (1 : Fin 2)).val / 512, by omega⟩, ⟨(y (0 : Fin 2)).val / 4096, by omega⟩), by rw [mem_blkSet]; exact ⟨rfl, rfl⟩⟩
theorem slot_disjoint (p q : Fin 5 × Fin 4) (h : p ≠ q) : Disjoint (slotSet p) (slotSet q) := by
  rw [Finset.disjoint_left]; intro y hy hy'; rw [mem_slotSet] at hy hy'
  have a := p.2.isLt; have b := q.2.isLt
  exact h (Prod.ext (Fin.ext (by omega)) (Fin.ext (by omega)))
theorem slot_cover : (Finset.univ : Finset (Fin 5 × Fin 4)).biUnion slotSet = Finset.univ := by
  ext y; simp only [Finset.mem_biUnion, Finset.mem_univ, true_and, iff_true]
  have h0 : (y (0 : Fin 3)).val < 20 := (y (0 : Fin 3)).isLt
  exact ⟨(⟨(y (0 : Fin 3)).val / 4, by omega⟩, ⟨(y (0 : Fin 3)).val % 4, by omega⟩), by rw [mem_slotSet]; show _ = (y (0 : Fin 3)).val / 4 * 4 + (y (0 : Fin 3)).val % 4; omega⟩

variable (c : Dev nD)
theorem sep4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem sep5 (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

/-- The weight whole is its 14 slabs home. -/
theorem weight_eq (fw : BufOf F c hW1) : (pt c hW1 fw : sProp 𝕄) = bigSep Finset.univ (homeG c fw) := by
  have h := Ring.pointsTo_blocks (Ix := Unit) (Name := ℕ) (U := Pipeline.UD sig nD τ) (Lvl := ℕ) (q := fullShare) (Val := Elt F) (ℓ := (c : Thread nD τ).loc main_v2)
    blkSet blk_disjoint blk_cover fw
  rw [bigSep_univ_prod] at h
  refine h.trans (bigSep_congr fun b _ => ?_)
  rw [sep4]
  unfold homeG homeP
  rw [← blk_set, ← blk_set, ← blk_set, ← blk_set]
  rfl
/-- The first five slabs apart from the rest. -/
theorem homes_zero (fw : BufOf F c hW1) : (bigSep Finset.univ (homeG c fw) : sProp 𝕄)
    = iprop((homeG c fw 0 ∗ homeG c fw 1 ∗ homeG c fw 2 ∗ homeG c fw 3 ∗ homeG c fw 4) ∗ bigSep (Ring.homeSet 5 0) (homeG c fw)) := by
  have e : (Finset.univ : Finset (Fin 14)) = ({0, 1, 2, 3, 4} : Finset (Fin 14)) ∪ Ring.homeSet 5 0 := by
    ext b; simp only [Finset.mem_univ, Finset.mem_union, Finset.mem_insert, Finset.mem_singleton, Ring.mem_homeSet, true_iff, Fin.ext_iff]; have := b.isLt; omega
  rw [e, bigSep_union (by
    rw [Finset.disjoint_left]; intro b hb hb'; simp only [Finset.mem_insert, Finset.mem_singleton, Fin.ext_iff, Ring.mem_homeSet] at hb hb'; omega)]
  congr 1
  exact bigSep_eq_bigSepL_of_eq [(0 : Fin 14), 1, 2, 3, 4] (by decide) (by decide) _

/-- The four slots of a group at one contents are each at some contents. -/
theorem group_some (f : BufOf F c mRing) (s : Fin 5) :
    (iprop(slotP c s 0 f ∗ slotP c s 1 f ∗ slotP c s 2 f ∗ slotP c s 3 f) : sProp 𝕄)
      ⊢ iprop((∃ f, slotP (F := F) c s 0 f) ∗ (∃ f, slotP (F := F) c s 1 f) ∗ (∃ f, slotP (F := F) c s 2 f) ∗ (∃ f, slotP (F := F) c s 3 f)) := by
  iintro ⟨H0, H1, H2, H3⟩
  isplitl [H0]; · iexists f; iexact H0
  isplitl [H1]; · iexists f; iexact H1
  isplitl [H2]; · iexists f; iexact H2
  iexists f; iexact H3
/-- The ring whole, at some contents, is its slots, each at some contents; -/
theorem ring_split : (iprop(∃ f : BufOf F c mRing, pt c mRing f) : sProp 𝕄)
    ⊢ bigSep Finset.univ (fun s : Fin 5 => iprop((∃ f, slotP (F := F) c s 0 f) ∗ (∃ f, slotP (F := F) c s 1 f) ∗ (∃ f, slotP (F := F) c s 2 f) ∗ (∃ f, slotP (F := F) c s 3 f))) := by
  iintro ⟨%f, H⟩
  have h := Ring.pointsTo_blocks (Ix := Unit) (Name := ℕ) (U := Pipeline.UD sig nD τ) (Lvl := ℕ) (q := fullShare) (Val := Elt F) (ℓ := (c : Thread nD τ).loc cc0_scratch0)
    slotSet slot_disjoint slot_cover f
  rw [bigSep_univ_prod] at h
  have h2 := (ent_of_eq h).trans (bigSep_mono (s := Finset.univ) (Ψ := fun s : Fin 5 => iprop((∃ f, slotP (F := F) c s 0 f) ∗ (∃ f, slotP (F := F) c s 1 f) ∗ (∃ f, slotP (F := F) c s 2 f) ∗ (∃ f, slotP (F := F) c s 3 f))) fun s _ => by
    rw [sep4, ← rslot_set, ← rslot_set, ← rslot_set, ← rslot_set]
    exact group_some c f s)
  iapply h2; iexact H
/-- and back. -/
theorem ring_join (f₀ : BufOf F c mRing) : (bigSep Finset.univ (fun s : Fin 5 => iprop((∃ f, slotP (F := F) c s 0 f) ∗ (∃ f, slotP (F := F) c s 1 f) ∗ (∃ f, slotP (F := F) c s 2 f) ∗ (∃ f, slotP (F := F) c s 3 f))) : sProp 𝕄)
    ⊢ iprop(∃ f : BufOf F c mRing, pt c mRing f) := by
  have h := Ring.pointsTo_blocks_join_exists (Ix := Unit) (Name := ℕ) (U := Pipeline.UD sig nD τ) (Lvl := ℕ) (q := fullShare) (Val := Elt F) (ℓ := (c : Thread nD τ).loc cc0_scratch0)
    slotSet slot_disjoint slot_cover f₀
  rw [bigSep_univ_prod] at h
  refine (bigSep_mono fun s _ => ?_).trans h
  rw [sep4, ← rslot_set, ← rslot_set, ← rslot_set, ← rslot_set]
  exact BI.Entails.refl _

/-- The ring's transfer cells, each at zero. -/
abbrev ringCells : sProp 𝕄 := iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0)
/-- The ring free: its cells at zero beside its slots. -/
theorem free_of : (iprop(ringCells (F := F) c ∗ (∃ f : BufOf F c mRing, pt c mRing f)) : sProp 𝕄) ⊢ iprop(freeG (F := F) c 0 ∗ freeG (F := F) c 1 ∗ freeG (F := F) c 2 ∗ freeG (F := F) c 3 ∗ freeG (F := F) c 4) := by
  refine (Laws.sep_mono .rfl ((ring_split c).trans (ent_of_eq (sep5 _)))).trans ?_
  iintro ⟨⟨C0, C1, C2, C3, C4, C5, C6, C7, C8, C9, C10, C11, C12, C13, C14, C15, C16, C17, C18, C19⟩, ⟨⟨S0, S1, S2, S3⟩, ⟨S4, S5, S6, S7⟩, ⟨S8, S9, S10, S11⟩, ⟨S12, S13, S14, S15⟩, ⟨S16, S17, S18, S19⟩⟩⟩
  isplitl [C0 S0 C1 S1 C2 S2 C3 S3]
  · isplitl [C0 S0]
    · isplitl [C0]; · iexact C0
      iexact S0
    isplitl [C1 S1]
    · isplitl [C1]; · iexact C1
      iexact S1
    isplitl [C2 S2]
    · isplitl [C2]; · iexact C2
      iexact S2
    isplitl [C3]; · iexact C3
    iexact S3
  isplitl [C4 S4 C5 S5 C6 S6 C7 S7]
  · isplitl [C4 S4]
    · isplitl [C4]; · iexact C4
      iexact S4
    isplitl [C5 S5]
    · isplitl [C5]; · iexact C5
      iexact S5
    isplitl [C6 S6]
    · isplitl [C6]; · iexact C6
      iexact S6
    isplitl [C7]; · iexact C7
    iexact S7
  isplitl [C8 S8 C9 S9 C10 S10 C11 S11]
  · isplitl [C8 S8]
    · isplitl [C8]; · iexact C8
      iexact S8
    isplitl [C9 S9]
    · isplitl [C9]; · iexact C9
      iexact S9
    isplitl [C10 S10]
    · isplitl [C10]; · iexact C10
      iexact S10
    isplitl [C11]; · iexact C11
    iexact S11
  isplitl [C12 S12 C13 S13 C14 S14 C15 S15]
  · isplitl [C12 S12]
    · isplitl [C12]; · iexact C12
      iexact S12
    isplitl [C13 S13]
    · isplitl [C13]; · iexact C13
      iexact S13
    isplitl [C14 S14]
    · isplitl [C14]; · iexact C14
      iexact S14
    isplitl [C15]; · iexact C15
    iexact S15
  isplitl [C16 S16]
  · isplitl [C16]; · iexact C16
    iexact S16
  isplitl [C17 S17]
  · isplitl [C17]; · iexact C17
    iexact S17
  isplitl [C18 S18]
  · isplitl [C18]; · iexact C18
    iexact S18
  isplitl [C19]; · iexact C19
  iexact S19
theorem of_free (f₀ : BufOf F c mRing) : (iprop(freeG (F := F) c 0 ∗ freeG (F := F) c 1 ∗ freeG (F := F) c 2 ∗ freeG (F := F) c 3 ∗ freeG (F := F) c 4) : sProp 𝕄) ⊢ iprop(ringCells (F := F) c ∗ (∃ f : BufOf F c mRing, pt c mRing f)) := by
  refine BIBase.Entails.trans ?_ (Laws.sep_mono .rfl ((ent_of_eq (sep5 _).symm).trans (ring_join c f₀)))
  iintro ⟨⟨⟨C0, S0⟩, ⟨C1, S1⟩, ⟨C2, S2⟩, ⟨C3, S3⟩⟩, ⟨⟨C4, S4⟩, ⟨C5, S5⟩, ⟨C6, S6⟩, ⟨C7, S7⟩⟩, ⟨⟨C8, S8⟩, ⟨C9, S9⟩, ⟨C10, S10⟩, ⟨C11, S11⟩⟩, ⟨⟨C12, S12⟩, ⟨C13, S13⟩, ⟨C14, S14⟩, ⟨C15, S15⟩⟩, ⟨⟨C16, S16⟩, ⟨C17, S17⟩, ⟨C18, S18⟩, ⟨C19, S19⟩⟩⟩
  isplitl [C0 C1 C2 C3 C4 C5 C6 C7 C8 C9 C10 C11 C12 C13 C14 C15 C16 C17 C18 C19]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    iexact C19
  isplitl [S0 S1 S2 S3]
  · isplitl [S0]; · iexact S0
    isplitl [S1]; · iexact S1
    isplitl [S2]; · iexact S2
    iexact S3
  isplitl [S4 S5 S6 S7]
  · isplitl [S4]; · iexact S4
    isplitl [S5]; · iexact S5
    isplitl [S6]; · iexact S6
    iexact S7
  isplitl [S8 S9 S10 S11]
  · isplitl [S8]; · iexact S8
    isplitl [S9]; · iexact S9
    isplitl [S10]; · iexact S10
    iexact S11
  isplitl [S12 S13 S14 S15]
  · isplitl [S12]; · iexact S12
    isplitl [S13]; · iexact S13
    isplitl [S14]; · iexact S14
    iexact S15
  isplitl [S16]; · iexact S16
  isplitl [S17]; · iexact S17
  isplitl [S18]; · iexact S18
  iexact S19
end Cert.Proof.KI
end
-- ==== Proof.Run.Launch.lean ====
/-
  Hand-written, untrusted. The launch: the kernel's body under the pipeline, its own transfers and cells the region's invariant,
  and from it the frame and the four results as functions of the operands.
-/
module

public import proofs.«01_k».proof.Proof.Run.Out
public import proofs.«01_k».proof.Proof.Run.Split
public import proofs.«01_k».proof.Proof.Gen.KernelIdeal.Launch
public import proofs.«01_k».proof.Proof.Gen.KernelIdeal.Points
public import Idealize.ShloMosaic.Lib.VecWindow

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (Pipeline.UD sig nD τ) ℕ

/-! ## The region's invariant: the kernel's own arrays and cells, the operands -/

/-- The kernel's own transfer cells. -/
abbrev osem0 : Fin 28 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 28 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3, 4, 5, 6, 7, 8, 9, 10, 11, 12, 13, 14, 15, 16, 17, 18, 19, 20, 21, 22, 23, 24, 25, 26, 27] (by decide) (by decide)]; rfl
/-- The operands the body's transfers read. -/
def H0 : Finset (Ref sig .tc) := {main_v0, main_v1, main_arg2, main_v2, main_v3, main_v4, main_arg6, main_v5, main_v6}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hKc (V m c main_v0) ∗ pt c hKs (V m c main_v1) ∗ pt c hPos (V m c main_arg2) ∗ pt c hW1 (V m c main_v2) ∗ pt c hS1 (V m c main_v3) ∗ pt c hB1 (V m c main_v4) ∗ pt c hW2 (V m c main_arg6) ∗ pt c hS2 (V m c main_v5) ∗ pt c hB2 (V m c main_v6)) := by
  rw [BI.bigSep_eq_bigSepL_of_eq [main_v0, main_v1, main_arg2, main_v2, main_v3, main_v4, main_arg6, main_v5, main_v6] (by decide) (by decide)]; rfl
/-- The kernel's own arrays. -/
theorem scoped_eq (c : Dev nD) :
    (Pipeline.scopedRest (Ix := Unit) (Name := ℕ) (U := Pipeline.UD sig nD τ) (Lvl := ℕ) (Val := Elt F) spec0 c : sProp 𝕄)
      = iprop((∃ f, pt (F := F) c mRing f) ∗ (∃ f, pt (F := F) c mKc f) ∗ (∃ f, pt (F := F) c mKs f) ∗ (∃ f, pt (F := F) c mPos f) ∗ (∃ f, pt (F := F) c mS1 f) ∗ (∃ f, pt (F := F) c mB1 f) ∗ (∃ f, pt (F := F) c mW2 f) ∗ (∃ f, pt (F := F) c mS2 f) ∗ (∃ f, pt (F := F) c mB2 f) ∗ (∃ f, pt (F := F) c mKf f) ∗ (∃ f, pt (F := F) c mXb f) ∗ (∃ f, pt (F := F) c mHid f)) := scopedRest0_eq c
/-- The invariant, conjunct by conjunct. -/
theorem PhiD_eq (c : Dev nD) :
    (Pipeline.ΦD osem0 spec0 H0 (V m) c : sProp 𝕄)
      = iprop(iprop((∃ f, pt (F := F) c mRing f) ∗ (∃ f, pt (F := F) c mKc f) ∗ (∃ f, pt (F := F) c mKs f) ∗ (∃ f, pt (F := F) c mPos f) ∗ (∃ f, pt (F := F) c mS1 f) ∗ (∃ f, pt (F := F) c mB1 f) ∗ (∃ f, pt (F := F) c mW2 f) ∗ (∃ f, pt (F := F) c mS2 f) ∗ (∃ f, pt (F := F) c mB2 f) ∗ (∃ f, pt (F := F) c mKf f) ∗ (∃ f, pt (F := F) c mXb f) ∗ (∃ f, pt (F := F) c mHid f))
          ∗ (∃ r, prngReg c r)
          ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
          ∗ iprop(pt c hKc (V m c main_v0) ∗ pt c hKs (V m c main_v1) ∗ pt c hPos (V m c main_arg2) ∗ pt c hW1 (V m c main_v2) ∗ pt c hS1 (V m c main_v3) ∗ pt c hB1 (V m c main_v4) ∗ pt c hW2 (V m c main_arg6) ∗ pt c hS2 (V m c main_v5) ∗ pt c hB2 (V m c main_v6))) := by
  rw [Pipeline.ΦD_eq, scoped_eq, ownSems00_eq, hbmPts0_eq]

/-! ## The proof data -/

/-- The proof data of the one pipeline on core `c`: each result's buffer after the body at the run's value. -/
def dats (_ : Fin 1) (c : Dev nD) : Dat τ (Elt F) Unit ℕ (Pipeline.UD sig nD τ) ℕ cfg0 c where
  A w := V m c (Pipeline.arrRef spec0 w)
  after w t := match w with
    | ⟨0, _⟩ => out9 c (V m c main_v0) (V m c main_v1) (V m c main_arg2) (V m c main_v2) (V m c main_v3) (V m c main_v4) (V m c main_arg6) (V m c main_v5) (V m c main_v6)
    | ⟨1, _⟩ => out10 c (V m c main_v0) (V m c main_v1) (V m c main_arg2) (V m c main_v2) (V m c main_v3) (V m c main_v4) (V m c main_arg6) (V m c main_v5) (V m c main_v6)
    | ⟨2, _⟩ => out11 c (V m c main_v0) (V m c main_v1) (V m c main_arg2) (V m c main_v2) (V m c main_v3) (V m c main_v4)
    | ⟨3, _⟩ => out12 c (V m c main_v0) (V m c main_v1) (V m c main_arg2) (V m c main_v2) (V m c main_v3) (V m c main_v4)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = out9 c (V m c main_v0) (V m c main_v1) (V m c main_arg2) (V m c main_v2) (V m c main_v3) (V m c main_v4) (V m c main_arg6) (V m c main_v5) (V m c main_v6) := by dsimp only [dats]
theorem after_1 (c : Dev nD) (t : Fin cfg0.N) : (dats m 0 c).after 1 t = out10 c (V m c main_v0) (V m c main_v1) (V m c main_arg2) (V m c main_v2) (V m c main_v3) (V m c main_v4) (V m c main_arg6) (V m c main_v5) (V m c main_v6) := by dsimp only [dats]
theorem after_2 (c : Dev nD) (t : Fin cfg0.N) : (dats m 0 c).after 2 t = out11 c (V m c main_v0) (V m c main_v1) (V m c main_arg2) (V m c main_v2) (V m c main_v3) (V m c main_v4) := by dsimp only [dats]
theorem after_3 (c : Dev nD) (t : Fin cfg0.N) : (dats m 0 c).after 3 t = out12 c (V m c main_v0) (V m c main_v1) (V m c main_arg2) (V m c main_v2) (V m c main_v3) (V m c main_v4) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem homes_split (c : Dev nD) (fw : BufOf F c hW1) : bigSep Finset.univ (homeG c fw)
    ⊢ iprop((homeG c fw 0 ∗ homeG c fw 1 ∗ homeG c fw 2 ∗ homeG c fw 3 ∗ homeG c fw 4) ∗ bigSep (Ring.homeSet 5 0) (homeG c fw)) := by
  rw [homes_zero]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3]
  rw [show (dats m 0 c).Φ t.castSucc = Pipeline.ΦD osem0 spec0 H0 (V m) c from rfl, PhiD_eq]
  unfold Dat.owesAt Pipeline.owesWithin
  rw [show (dats m 0 c).owed t.castSucc = 0 from rfl, show (dats m 0 c).owed t.succ = 0 from rfl]
  unfold owns
  rw [weight_eq]
  iintro ⟨⟨⟨S_mRing, S_mKc, S_mKs, S_mPos, S_mS1, S_mB1, S_mW2, S_mS2, S_mB2, S_mKf, S_mXb, S_mHid⟩, Hg, ⟨Q4, Q5, Q6, Q7, Q8, Q9, Q10, Q11, Q12, Q13, Q14, Q15, Q16, Q17, Q18, Q19, Q20, Q21, Q22, Q23, Q24, Q25, Q26, Q27, Q28, Q29, Q30, Q31⟩, ⟨H_hKc, H_hKs, H_hPos, H_hW1, H_hS1, H_hB1, H_hW2, H_hS2, H_hB2⟩⟩, ⟨%W, -, HW⟩, ⟨%d0, %f0, -, O0⟩, ⟨%d1, %f1, -, O1⟩, ⟨%d2, %f2, -, O2⟩, ⟨%d3, %f3, -, O3⟩⟩
  ihave HH := (homes_split c (V m c main_v2)) $$ H_hW1
  icases HH with ⟨HHa, HHb⟩
  icases S_mRing with ⟨%fr, S_mRing⟩
  ihave HF := (free_of c) $$ [Q11 Q12 Q13 Q14 Q15 Q16 Q17 Q18 Q19 Q20 Q21 Q22 Q23 Q24 Q25 Q26 Q27 Q28 Q29 Q30 S_mRing]
  · isplitr [S_mRing]
    · isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      iexact Q30
    · iexists fr; iexact S_mRing
  iapply ((bodyRun c _ _ _ _ _ _ _ _ (V m c main_v0) (V m c main_v1) (V m c main_arg2) (V m c main_v2) (V m c main_v3) (V m c main_v4) (V m c main_arg6) (V m c main_v5) (V m c main_v6)).2.2.2.2 _)
  isplitl [H_hKc H_hKs H_hPos H_hS1 H_hB1 H_hW2 H_hS2 H_hB2]
  · isplitl [H_hKc]; · iexact H_hKc
    isplitl [H_hKs]; · iexact H_hKs
    isplitl [H_hPos]; · iexact H_hPos
    isplitl [H_hS1]; · iexact H_hS1
    isplitl [H_hB1]; · iexact H_hB1
    isplitl [H_hW2]; · iexact H_hW2
    isplitl [H_hS2]; · iexact H_hS2
    iexact H_hB2
  isplitl [HHa]; · iexact HHa
  isplitl [HHb]; · iexact HHb
  isplitl [Q4 Q5 Q6 Q7 Q8 Q9 Q10 Q31]
  · isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    iexact Q31
  isplitl [S_mKc S_mKs S_mPos S_mS1 S_mB1 S_mW2 S_mS2 S_mB2 S_mKf S_mXb S_mHid]
  · isplitl [S_mKc]; · iexact S_mKc
    isplitl [S_mKs]; · iexact S_mKs
    isplitl [S_mPos]; · iexact S_mPos
    isplitl [S_mS1]; · iexact S_mS1
    isplitl [S_mB1]; · iexact S_mB1
    isplitl [S_mW2]; · iexact S_mW2
    isplitl [S_mS2]; · iexact S_mS2
    isplitl [S_mB2]; · iexact S_mB2
    isplitl [S_mKf]; · iexact S_mKf
    isplitl [S_mXb]; · iexact S_mXb
    iexact S_mHid
  isplitl [HF]; · iexact HF
  isplitl [HW]; · iexists W; iexact HW
  isplitl [O0]; · iexists f0; iexact O0
  isplitl [O1]; · iexists f1; iexact O1
  isplitl [O2]; · iexists f2; iexact O2
  isplitl [O3]; · iexists f3; iexact O3
  iintro ⟨⟨H_hKc, H_hKs, H_hPos, H_hS1, H_hB1, H_hW2, H_hS2, H_hB2⟩, H_hW1, ⟨Q4, Q5, Q6, Q7, Q8, Q9, Q10, Q31⟩, ⟨S_mKc, S_mKs, S_mPos, S_mS1, S_mB1, S_mW2, S_mS2, S_mB2, S_mKf, S_mXb, S_mHid⟩, HF, ⟨%W', HW'⟩, ⟨%e0, O0⟩, ⟨%e1, O1⟩, ⟨%e2, O2⟩, ⟨%e3, O3⟩⟩
  ihave HR := (of_free c fr) $$ HF
  icases HR with ⟨⟨Q11, Q12, Q13, Q14, Q15, Q16, Q17, Q18, Q19, Q20, Q21, Q22, Q23, Q24, Q25, Q26, Q27, Q28, Q29, Q30⟩, S_mRing⟩
  isplitr [HW' O0 O1 O2 O3]
  · isplitl [S_mRing S_mKc S_mKs S_mPos S_mS1 S_mB1 S_mW2 S_mS2 S_mB2 S_mKf S_mXb S_mHid]
    · isplitl [S_mRing]; · iexact S_mRing
      isplitl [S_mKc]; · iexact S_mKc
      isplitl [S_mKs]; · iexact S_mKs
      isplitl [S_mPos]; · iexact S_mPos
      isplitl [S_mS1]; · iexact S_mS1
      isplitl [S_mB1]; · iexact S_mB1
      isplitl [S_mW2]; · iexact S_mW2
      isplitl [S_mS2]; · iexact S_mS2
      isplitl [S_mB2]; · iexact S_mB2
      isplitl [S_mKf]; · iexact S_mKf
      isplitl [S_mXb]; · iexact S_mXb
      iexact S_mHid
    isplitl [Hg]; · iexact Hg
    isplitl [Q4 Q5 Q6 Q7 Q8 Q9 Q10 Q11 Q12 Q13 Q14 Q15 Q16 Q17 Q18 Q19 Q20 Q21 Q22 Q23 Q24 Q25 Q26 Q27 Q28 Q29 Q30 Q31]
    · isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      iexact Q31
    isplitl [H_hKc]; · iexact H_hKc
    isplitl [H_hKs]; · iexact H_hKs
    isplitl [H_hPos]; · iexact H_hPos
    isplitl [H_hW1]; · iexact H_hW1
    isplitl [H_hS1]; · iexact H_hS1
    isplitl [H_hB1]; · iexact H_hB1
    isplitl [H_hW2]; · iexact H_hW2
    isplitl [H_hS2]; · iexact H_hS2
    iexact H_hB2
  isplitl [HW']
  · iexists W'; isplitr; · ipureintro; exact fun _ _ => Or.inl trivial
    iexact HW'
  isplitl [O0]
  · iexists _; isplitr
    swap; · iexact O0
    ipureintro; rw [piece9]; exact View.read_writes_full _ _ _ _ []
  isplitl [O1]
  · iexists _; isplitr
    swap; · iexact O1
    ipureintro; rw [piece10]; exact View.read_writes_full _ _ _ _ []
  isplitl [O2]
  · iexists _; isplitr
    swap; · iexact O2
    ipureintro; rw [piece11]; exact View.read_writes_full _ _ _ _ []
  · iexists _; isplitr
    swap; · iexact O3
    ipureintro; rw [piece12]; exact View.read_writes_full _ _ _ _ []

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every result's array at the run's value, every other array as the region found it, every cell at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame: the program terminates without a fault, its arguments end unchanged, every cell ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.Proof.KI

end
-- ==== Proof.Run.Text.lean ====
/-
  Hand-written, untrusted. The two printed programs of the kernel are the same text: `Kernel`'s body, definitions and `main` are
  `KernelIdeal`'s, so what is proved of the one at every float type holds of the other.
-/
module

public import proofs.«01_k».proof.Proof.Gen.KernelIdeal
public import proofs.«01_k».proof.Proof.Gen.Kernel
public import proofs.«01_k».proof.Defs
public import Idealize.ShloMosaic.Lib.Tactic.ProgEq
public import Idealize.ShloMosaic.Lib.Tactic

@[expose] public section

namespace Cert.Proof

open Idealize.ShloMosaic Idealize.SL.Sem Idealize.ShloMosaic.Tactic
open scoped Idealize.ShloMosaic.ProgEq

prog_eq Cert.Proof.body_eq : Cert.Kernel.cc0_compressed_keys Cert.KernelIdeal.cc0_compressed_keys from Cert.Kernel to Cert.KernelIdeal at Bits inferInstance by
  skip
lift_eq Cert.Proof.defs0_eq : Cert.Kernel.defs₀ Cert.KernelIdeal.defs₀ via Cert.Proof.body_eq of Cert.Kernel.cc0_compressed_keys Cert.KernelIdeal.cc0_compressed_keys
  from Cert.Kernel to Cert.KernelIdeal at Bits inferInstance
lift_eq Cert.Proof.defs_eq : Cert.Kernel.defs Cert.KernelIdeal.defs via Cert.Proof.defs0_eq of Cert.Kernel.defs₀ Cert.KernelIdeal.defs₀
  from Cert.Kernel to Cert.KernelIdeal at Bits inferInstance

end Cert.Proof

end
-- ==== Proof.Run.Frames.lean ====
/-
  Hand-written, untrusted. The two kernels' frames: each program terminates without a fault, leaves its arguments as they
  were, and leaves every transfer cell at zero.
-/
module

public import proofs.«01_k».proof.Proof.Run.Launch
public import proofs.«01_k».proof.Proof.Run.Text

@[expose] public section

namespace Cert.Proof

open Idealize.ShloMosaic Idealize.SL.Sem Idealize.ShloMosaic.Tactic

theorem main_eq : (Cert.Kernel.main : Dev Cert.Kernel.nD → _) = (Cert.KernelIdeal.main (F := Bits) : Dev Cert.KernelIdeal.nD → _) := by sl_kernel_rfl

theorem frame_KernelIdeal : Cert.quiescent_KernelIdeal (hKernelIdeal := Cert.KernelIdeal.Gen.facts) := fun m g _ => Cert.Proof.KI.frame_main (F := Ideal) m g

theorem frame_Kernel : Cert.quiescent_Kernel (hKernel := Cert.Kernel.Gen.facts) := by
  intro m g _
  rw [main_eq, defs_eq Cert.KernelIdeal.Gen.facts]
  exact Cert.Proof.KI.frame_main (F := Bits) m g

end Cert.Proof

end
-- ==== Proof.Value.Pow2.lean ====
module
public import Idealize.ShloMosaic.Lib.Pointwise

/-! The power-of-two quantiser, on one number: the kernel finds the exponent field of `x` by bisection and builds
the scale from it, the reference takes the least power of two above `x`. The two give the same scale and the same inverse. -/

@[expose] public section
set_option maxRecDepth 16384
noncomputable section
namespace Cert.Proof.Val
open Idealize.ShloMosaic Idealize.ShloMosaic.TcCoe

/-- The number whose single-precision word has exponent field `t` and fraction 0. -/
def pw (t : BitVec 32) : EReal := Ideal.ofBits .f32 (IntOp.shli .vector t 23#32)
/-- One step of the bisection: the bit `d` is kept where the number built with it is not above `x`. -/
def stepK (x : EReal) (f d : BitVec 32) : BitVec 32 := Scalar.select (Ideal.cmp .oge x (pw (IntOp.addi f d))) (IntOp.addi f d) f
/-- The exponent field of `x`, bit by bit. -/
def fieldK (x : EReal) : BitVec 32 :=
  stepK x (stepK x (stepK x (stepK x (stepK x (stepK x (stepK x (stepK x 0#32 128#32) 64#32) 32#32) 16#32) 8#32) 4#32) 2#32) 1#32
/-- The exponent of the scale: 0 for a row maximum that is zero, subnormal or infinite. -/
def expK (a x : EReal) : BitVec 32 :=
  Scalar.select (IntOp.ori (IntOp.ori (IntOp.cmpi .eq (fieldK x) 0#32) (IntOp.cmpi .eq (fieldK x) 255#32)) (Ideal.cmp .oeq a (Ideal.ofBits .f32 0x00000000#32)))
    0#32 (IntOp.subi (fieldK x) 126#32)
/-- The kernel's scale from the exponent. -/
def scaleK (e : BitVec 32) : EReal := pw (IntOp.addi e 127#32)
/-- The kernel's inverse from the exponent. -/
def invK (e : BitVec 32) : EReal := pw (IntOp.maxsi (IntOp.subi 127#32 e) 0#32)

/-- The power of two the reference tries at place `i`. -/
def powR (i : Fin 254) : EReal := Ideal.exp2 (((IntOp.subi (BitVec.ofNat 32 i.val) 126#32).toInt : ℝ) : EReal)
/-- The least power of two above `x`. -/
def aboveR (x : EReal) : EReal :=
  Finset.univ.fold min (Ideal.ofBits .f32 0x7F800000#32) fun i : Fin 254 => if x < powR i then powR i else Ideal.ofBits .f32 0x7F800000#32
/-- The reference's scale. -/
def scaleR (x : EReal) : EReal :=
  Scalar.select (IntOp.ori (Ideal.cmp .olt x (Ideal.ofBits .f32 0x00800000#32)) (Ideal.cmp .oeq x (Ideal.ofBits .f32 0x7F800000#32)))
    (Ideal.ofBits .f32 0x3F800000#32) (aboveR x)
/-- The reference's inverse of a scale. -/
def invR (s : EReal) : EReal :=
  Scalar.select (Ideal.cmp .ogt s (Ideal.ofBits .f32 0x7E800000#32)) (Ideal.ofBits .f32 0x00000000#32) (Ideal.div (Ideal.ofBits .f32 0x3F800000#32) s)

/-! ## The powers -/

/-- `pw` of a small natural. -/
def pn (n : ℕ) : EReal := pw (BitVec.ofNat 32 n)

theorem pn_eq (n : ℕ) (h : n < 256) : pn n = Ideal.ieee 8 23 (BitVec.ofNat 32 n <<< 23) := by
  unfold pn pw IntOp.shli; rfl
theorem ieee_pow (b : BitVec 32) (n : ℕ) (hs : b.extractLsb' 31 1 = 0#1) (hf : b.extractLsb' 0 23 = 0#23) (he : (b.extractLsb' 23 8).toNat = n)
    (h0 : n ≠ 0) (h1 : n ≠ 255) : Ideal.ieee 8 23 b = (((2 : ℝ) ^ ((n : ℤ) - 127) : ℝ) : EReal) := by
  unfold Ideal.ieee
  simp only [hs, hf, he]
  norm_num [h0, h1, -EReal.coe_mul]
  have : (8388608 : ℝ) = (2 : ℝ) ^ (23 : ℤ) := by norm_num
  rw [this, ← zpow_add₀ (by norm_num)]
  congr 1
  ring
/-- Between the ends the number is `2 ^ (n - 127)`. -/
theorem pn_mid (n : ℕ) (h0 : 1 ≤ n) (h1 : n < 255) : pn n = (((2 : ℝ) ^ ((n : ℤ) - 127) : ℝ) : EReal) := by
  rw [pn_eq n (by omega)]
  refine ieee_pow _ n ?_ ?_ ?_ (by omega) (by omega)
  · have : ∀ m : Fin 256, (BitVec.ofNat 32 m.val <<< 23).extractLsb' 31 1 = 0#1 := by decide +kernel
    exact this ⟨n, by omega⟩
  · have : ∀ m : Fin 256, (BitVec.ofNat 32 m.val <<< 23).extractLsb' 0 23 = 0#23 := by decide +kernel
    exact this ⟨n, by omega⟩
  · have : ∀ m : Fin 256, ((BitVec.ofNat 32 m.val <<< 23).extractLsb' 23 8).toNat = m.val := by decide +kernel
    exact this ⟨n, by omega⟩
theorem pn_zero : pn 0 = 0 := by rw [pn_eq 0 (by norm_num)]; simp [Ideal.ieee]
theorem pn_top : pn 255 = ⊤ := by rw [pn_eq 255 (by norm_num)]; simp [Ideal.ieee]
theorem pn_one : pn 127 = 1 := by rw [pn_mid 127 (by norm_num) (by norm_num)]; norm_num
/-- The numbers grow with the field. -/
theorem pn_lt (m n : ℕ) (h : m < n) (hn : n ≤ 255) : pn m < pn n := by
  rcases Nat.eq_zero_or_pos m with rfl | hm
  · rw [pn_zero]
    rcases Nat.lt_or_ge n 255 with h2 | h2
    · rw [pn_mid n (by omega) h2]
      exact_mod_cast (by positivity : (0 : ℝ) < (2 : ℝ) ^ ((n : ℤ) - 127))
    · obtain rfl : n = 255 := by omega
      rw [pn_top]; exact EReal.coe_lt_top 0
  · rw [pn_mid m hm (by omega)]
    rcases Nat.lt_or_ge n 255 with h2 | h2
    · rw [pn_mid n (by omega) h2, EReal.coe_lt_coe_iff]
      exact zpow_lt_zpow_right₀ (by norm_num) (by omega)
    · obtain rfl : n = 255 := by omega
      rw [pn_top]; exact EReal.coe_lt_top _
theorem pn_le (m n : ℕ) (h : m ≤ n) (hn : n ≤ 255) : pn m ≤ pn n := by
  rcases Nat.lt_or_ge m n with h2 | h2
  · exact (pn_lt m n h2 hn).le
  · rw [show m = n by omega]

/-! ## The bisection -/

/-- What the bisection keeps: the field found so far, and the width still open. -/
def Inv (x : EReal) (b : BitVec 32) (w : ℕ) : Prop :=
  ∃ f : ℕ, b = BitVec.ofNat 32 f ∧ f + w ≤ 256 ∧ pn f ≤ x ∧ (f + w = 256 ∨ x < pn (f + w))

theorem Inv.step {x : EReal} {b : BitVec 32} {d : ℕ} (hd : 0 < d) (h : Inv x b (d + d)) : Inv x (stepK x b (BitVec.ofNat 32 d)) d := by
  obtain ⟨f, rfl, h1, h2, h3⟩ := h
  have ha : IntOp.addi (BitVec.ofNat 32 f) (BitVec.ofNat 32 d) = BitVec.ofNat 32 (f + d) := (BitVec.ofNat_add f d).symm
  unfold stepK
  rw [ha]
  by_cases hc : pn (f + d) ≤ x
  · refine ⟨f + d, ?_, by omega, hc, ?_⟩
    · simp [Scalar.select, Ideal.cmp, show pw (BitVec.ofNat 32 (f + d)) ≤ x from hc]
    · rw [Nat.add_assoc]; exact h3
  · refine ⟨f, ?_, by omega, h2, Or.inr (not_le.1 hc)⟩
    simp [Scalar.select, Ideal.cmp, show ¬ pw (BitVec.ofNat 32 (f + d)) ≤ x from hc]

/-- The field found: the largest whose number is not above `x`. -/
theorem fieldK_spec (x : EReal) (hx : 0 ≤ x) :
    ∃ f : ℕ, fieldK x = BitVec.ofNat 32 f ∧ f ≤ 255 ∧ pn f ≤ x ∧ (f = 255 ∨ x < pn (f + 1)) := by
  have h0 : Inv x 0#32 (128 + 128) := ⟨0, rfl, by norm_num, by rw [pn_zero]; exact hx, Or.inl rfl⟩
  have h := (((((((h0.step (by norm_num)).step (d := 64) (by norm_num)).step (d := 32) (by norm_num)).step (d := 16) (by norm_num)).step (d := 8) (by norm_num)).step
    (d := 4) (by norm_num)).step (d := 2) (by norm_num)).step (d := 1) (by norm_num)
  obtain ⟨f, h1, h2, h3, h4⟩ := h
  exact ⟨f, h1, by omega, h3, h4.imp (by omega) id⟩

/-! ## The reference's powers -/

theorem powR_eq (i : Fin 254) : powR i = pn (i.val + 1) := by
  rw [pn_mid _ (by omega) (by omega)]
  have : ∀ m : Fin 254, (IntOp.subi (BitVec.ofNat 32 m.val) 126#32).toInt = (m.val : ℤ) - 126 := by decide +kernel
  unfold powR
  rw [this i, Ideal.exp2_coe]
  congr 1
  show (2 : ℝ) ^ ((((i.val : ℤ) - 126 : ℤ)) : ℝ) = _
  rw [Real.rpow_intCast]
  congr 1
  push_cast
  ring
theorem bits_inf : Ideal.ofBits .f32 0x7F800000#32 = ⊤ := pn_top
theorem bits_min : Ideal.ofBits .f32 0x00800000#32 = pn 1 := rfl
theorem bits_big : Ideal.ofBits .f32 0x7E800000#32 = pn 253 := rfl
theorem bits_one : Ideal.ofBits .f32 0x3F800000#32 = pn 127 := rfl

/-- The least power above `x`, for the field `f` of `x`. -/
theorem aboveR_eq (x : EReal) (f : ℕ) (h254 : f ≤ 254) (h1 : pn f ≤ x) (h2 : x < pn (f + 1)) : aboveR x = pn (f + 1) := by
  unfold aboveR
  rw [bits_inf]
  refine eq_of_forall_le_iff fun z => ?_
  rw [Finset.le_fold_min]
  constructor
  · rintro ⟨_, h⟩
    rcases Nat.lt_or_ge f 254 with h3 | h3
    · have := h ⟨f, by omega⟩ (Finset.mem_univ _)
      rw [powR_eq] at this
      simpa [h2] using this
    · obtain rfl : f = 254 := by omega
      rw [pn_top]; exact le_top
  · intro h
    refine ⟨le_top, fun i _ => ?_⟩
    rw [powR_eq]
    by_cases hc : x < pn (i.val + 1)
    · rw [if_pos hc]
      refine h.trans (pn_le _ _ ?_ (by omega))
      by_contra hn
      exact absurd ((pn_le (i.val + 1) f (by omega) (by omega)).trans h1) (not_le.2 hc)
    · rw [if_neg hc]; exact le_top

/-! ## The two quantisers agree -/

theorem one_or (b : BitVec 1) : (1#1 ||| b) = 1#1 := by revert b; decide

/-- Both sides at the ends of the range (`x` zero, subnormal or infinite): scale 1. -/
theorem scaleR_end (x : EReal) (h : x < pn 1 ∨ x = ⊤) : scaleR x = 1 := by
  unfold scaleR
  rw [bits_min, bits_inf, bits_one, pn_one]
  rcases h with h | h <;> simp [Scalar.select, Ideal.cmp, IntOp.ori, h, one_or]
theorem scaleR_mid (x : EReal) (f : ℕ) (h0 : 1 ≤ f) (h254 : f ≤ 254) (h1 : pn f ≤ x) (h2 : x < pn (f + 1)) : scaleR x = pn (f + 1) := by
  have ha : ¬ x < pn 1 := not_lt.2 ((pn_le 1 f h0 (by omega)).trans h1)
  have hb : ¬ x = ⊤ := (h2.trans_le le_top).ne
  unfold scaleR
  rw [bits_min, bits_inf, aboveR_eq x f h254 h1 h2]
  simp [Scalar.select, Ideal.cmp, IntOp.ori, ha, hb]

theorem invR_one : invR 1 = 1 := by
  unfold invR
  rw [bits_big, bits_one, pn_one]
  have h : ¬ pn 253 < (1 : EReal) := by rw [← pn_one]; exact not_lt.2 (pn_le 127 253 (by norm_num) (by norm_num))
  simp [Scalar.select, Ideal.cmp, h, Ideal.div]
theorem invR_small (n : ℕ) (h0 : 1 ≤ n) (h : n ≤ 253) : invR (pn n) = pn (254 - n) := by
  unfold invR
  rw [bits_big, bits_one, pn_one]
  have hc : ¬ pn 253 < pn n := not_lt.2 (pn_le n 253 h (by norm_num))
  have hp : pn n ≠ 0 := by have := pn_lt 0 n (by omega) (by omega); rw [pn_zero] at this; exact this.ne'
  simp only [Scalar.select, Ideal.cmp, hc, decide_false, BitVec.ofBool_false, Ideal.div, hp, if_false]
  rw [if_neg (by decide), pn_mid n h0 (by omega), pn_mid (254 - n) (by omega) (by omega), one_mul, ← EReal.coe_inv, ← zpow_neg]
  congr 2
  omega
theorem invR_big (n : ℕ) (h : 254 ≤ n) (h2 : n ≤ 255) : invR (pn n) = 0 := by
  unfold invR
  rw [bits_big]
  have hc : pn 253 < pn n := pn_lt 253 n (by omega) h2
  simp [Scalar.select, Ideal.cmp, hc]

/-- The exponent, for the field `f` of `x`. -/
theorem expK_end (a x : EReal) (f : ℕ) (hf : fieldK x = BitVec.ofNat 32 f) (h : f = 0 ∨ f = 255) : expK a x = 0#32 := by
  unfold expK
  rw [hf]
  rcases h with rfl | rfl <;> simp [Scalar.select, IntOp.ori, IntOp.cmpi, one_or]
theorem expK_mid (a x : EReal) (f : ℕ) (hf : fieldK x = BitVec.ofNat 32 f) (h0 : 1 ≤ f) (h1 : f ≤ 254) (ha : a ≠ 0) :
    expK a x = IntOp.subi (BitVec.ofNat 32 f) 126#32 := by
  unfold expK
  rw [hf]
  have e0 : ∀ m : Fin 255, m.val ≠ 0 → IntOp.ori (IntOp.cmpi .eq (BitVec.ofNat 32 m.val) 0#32) (IntOp.cmpi .eq (BitVec.ofNat 32 m.val) 255#32) = 0#1 := by decide +kernel
  rw [e0 ⟨f, by omega⟩ (by show f ≠ 0; omega)]
  simp [Scalar.select, Ideal.cmp, ha, IntOp.ori]

theorem quant (a x : EReal) (hx : 0 ≤ x) (ha : a = 0 → x = 0) :
    scaleK (expK a x) = scaleR x ∧ invK (expK a x) = invR (scaleR x) := by
  obtain ⟨f, hf, h255, h1, h2⟩ := fieldK_spec x hx
  by_cases hend : f = 0 ∨ f = 255
  · have hs : scaleR x = 1 := by
      refine scaleR_end x ?_
      rcases hend with rfl | rfl
      · exact Or.inl (h2.resolve_left (by norm_num))
      · exact Or.inr (top_le_iff.1 (pn_top ▸ h1))
    rw [expK_end a x f hf hend, hs, invR_one]
    exact ⟨pn_one, pn_one⟩
  · have hf0 : 1 ≤ f := by omega
    have hf1 : f ≤ 254 := by omega
    have hlt := h2.resolve_left (by omega)
    have ha' : a ≠ 0 := fun h => by
      have h3 := pn_lt 0 f (by omega) (by omega)
      rw [pn_zero] at h3
      exact absurd (ha h ▸ h1) (not_le.2 h3)
    rw [expK_mid a x f hf hf0 hf1 ha', scaleR_mid x f hf0 hf1 h1 hlt]
    have es : ∀ m : Fin 255, IntOp.addi (IntOp.subi (BitVec.ofNat 32 m.val) 126#32) 127#32 = BitVec.ofNat 32 (m.val + 1) := by decide +kernel
    have ei : ∀ m : Fin 255, IntOp.maxsi (IntOp.subi 127#32 (IntOp.subi (BitVec.ofNat 32 m.val) 126#32)) 0#32 = BitVec.ofNat 32 (253 - m.val) := by decide +kernel
    refine ⟨congrArg pw (es ⟨f, by omega⟩), (congrArg pw (ei ⟨f, by omega⟩)).trans ?_⟩
    show pn (253 - f) = _
    rcases Nat.lt_or_ge f 253 with h3 | h3
    · rw [invR_small (f + 1) (by omega) (by omega)]; congr 1; omega
    · rw [invR_big (f + 1) (by omega) (by omega), show 253 - f = 0 by omega, pn_zero]

end Cert.Proof.Val
end
-- ==== Proof.Value.Spec.lean ====
module
public import proofs.«01_k».proof.Proof.Value.Pow2

/-! What both programs compute, on plain functions of plain indices. -/

@[expose] public section
set_option maxRecDepth 16384
noncomputable section
namespace Cert.Proof.Val
open Idealize.ShloMosaic Idealize.ShloMosaic.TcCoe

/-! ## The activation: half of `y` times the complementary error function of `-y / √2`, by the rational expansion -/

/-- The argument of the error function. -/
def gArg (y : EReal) : EReal := (Ideal.ofBits .f32 0x00000000#32 - y) * Ideal.ofBits .f32 0x3F3504F3#32
/-- The expansion near zero, in `x` and `z = x * x`. -/
def gInner (x z : EReal) : EReal := Ideal.ofBits .f32 0x3F800000#32 - x * ((((((Ideal.ofBits .f32 0x38A4B519#32 * z + Ideal.ofBits .f32 0xBA51FB80#32) * z + Ideal.ofBits .f32 0x3BAA02D9#32) * z + Ideal.ofBits .f32 0xBCDBFC87#32) * z + Ideal.ofBits .f32 0x3DE7167C#32) * z + Ideal.ofBits .f32 0xBEC0939F#32) * z + Ideal.ofBits .f32 0x3F906EBA#32)
/-- The two tails, in `r = 1 / (x * x)`. -/
def gTailA (r : EReal) : EReal := (((((((Ideal.ofBits .f32 0x3CBE9CF4#32 * r + Ideal.ofBits .f32 0xBE0E0868#32) * r + Ideal.ofBits .f32 0x3EBCCBD0#32) * r + Ideal.ofBits .f32 0xBF151CF8#32) * r + Ideal.ofBits .f32 0x3F1EF9E3#32) * r + Ideal.ofBits .f32 0xBEFD28C0#32) * r + Ideal.ofBits .f32 0x3EAE5471#32) * r + Ideal.ofBits .f32 0xBE8C5880#32) * r + Ideal.ofBits .f32 0x3F1056E6#32
def gTailB (r : EReal) : EReal := ((((((Ideal.ofBits .f32 0xC127A483#32 * r + Ideal.ofBits .f32 0x414FA29C#32) * r + Ideal.ofBits .f32 0xC0EFDB4A#32) * r + Ideal.ofBits .f32 0x403AF1FA#32) * r + Ideal.ofBits .f32 0xBF81F436#32) * r + Ideal.ofBits .f32 0x3ED7FC3E#32) * r + Ideal.ofBits .f32 0xBE906C5D#32) * r + Ideal.ofBits .f32 0x3F106EB9#32
/-- The expansion away from zero, in `x`, `a = |x|`, `z = x * x` and `r = 1 / z`. -/
def gOuter (a z r : EReal) : EReal :=
  Scalar.select (Ideal.cmp .olt (Ideal.ofBits .f32 0x00000000#32 - z) (Ideal.ofBits .f32 0xC2B17218#32)) (Ideal.ofBits .f32 0x00000000#32)
    (Ideal.exp (Ideal.ofBits .f32 0x00000000#32 - z) * Ideal.div (Ideal.ofBits .f32 0x3F800000#32) a
      * Scalar.select (Ideal.cmp .olt a (Ideal.ofBits .f32 0x40000000#32)) (gTailA r) (gTailB r))
/-- The activation. -/
def gelu (y : EReal) : EReal :=
  (Ideal.ofBits .f32 0x3F000000#32 * y)
    * Scalar.select (Ideal.cmp .olt (max (gArg y) (-gArg y)) (Ideal.ofBits .f32 0x3F800000#32)) (gInner (gArg y) (gArg y * gArg y))
        (Scalar.select (Ideal.cmp .olt (gArg y) (Ideal.ofBits .f32 0x00000000#32))
          (Ideal.ofBits .f32 0x40000000#32 - gOuter (max (gArg y) (-gArg y)) (gArg y * gArg y) (Ideal.div (Ideal.ofBits .f32 0x3F800000#32) (gArg y * gArg y)))
          (gOuter (max (gArg y) (-gArg y)) (gArg y * gArg y) (Ideal.div (Ideal.ofBits .f32 0x3F800000#32) (gArg y * gArg y))))

/-! ## The rows -/

/-- The largest magnitude of a row. -/
def amax {n : ℕ} (h : Fin n → EReal) : EReal := Finset.univ.fold max (Ideal.ofBits .f32 0xFF800000#32) fun c => max (h c) (-h c)
/-- What is compared with the powers of two. -/
def scaled (a : EReal) : EReal := a * Ideal.ofBits .f32 0x3B124925#32
/-- The scale of a row, and its inverse. -/
def qscale {n : ℕ} (h : Fin n → EReal) : EReal := scaleR (scaled (amax h))
def qinv {n : ℕ} (h : Fin n → EReal) : EReal := invR (qscale h)
/-- One code: the value times the inverse, held within ±448. -/
def code (v i : EReal) : EReal := min (Ideal.ofBits .f32 0x43E00000#32) (max (Ideal.ofBits .f32 0xC3E00000#32) (v * i))
/-- The codes of a row. -/
def qcode {n : ℕ} (h : Fin n → EReal) (c : Fin n) : EReal := code (h c) (qinv h)

/-- The hidden row of an input row `X`. -/
def hidRow (X : Fin 16384 → EReal) (W : Fin 16384 → Fin 7168 → EReal) (s b : Fin 7168 → EReal) (c : Fin 7168) : EReal :=
  gelu ((∑ q, X q * W q c) * s c + b c)
/-- The output row of a hidden row `h`. -/
def outRow (h : Fin 7168 → EReal) (W : Fin 7168 → Fin 512 → EReal) (s b : Fin 512 → EReal) (d : Fin 512) : EReal :=
  (∑ c, qcode h c * W c d) * qscale h * s d + b d
/-- The input row of window `n` of batch `b`: 32 keys, scaled, plus the positions. -/
def winRow (K : Fin 6 → Fin 128 → Fin 512 → EReal) (S : Fin 6 → Fin 128 → EReal) (P : Fin 32 → Fin 512 → EReal) (b : Fin 6) (n : Fin 7) (q : Fin 16384) : EReal :=
  K b ⟨16 * n.val + q.val / 512, by omega⟩ ⟨q.val % 512, by omega⟩ * S b ⟨16 * n.val + q.val / 512, by omega⟩
    + P ⟨q.val / 512, by omega⟩ ⟨q.val % 512, by omega⟩

/-! ## The scale both ways -/

theorem le_amax {n : ℕ} (h : Fin n → EReal) (c : Fin n) : max (h c) (-h c) ≤ amax h :=
  (Finset.fold_max_le (amax h)).1 le_rfl |>.2 c (Finset.mem_univ c)
theorem abs_nonneg (x : EReal) : 0 ≤ max x (-x) := by
  rcases le_total 0 x with h | h
  · exact h.trans (le_max_left _ _)
  · exact (EReal.neg_le_neg_iff.2 h |>.trans' (by simp)).trans (le_max_right _ _)
theorem amax_nonneg {n : ℕ} (h : Fin n → EReal) (c : Fin n) : 0 ≤ amax h := (abs_nonneg _).trans (le_amax h c)
theorem coef_nonneg : (0 : EReal) ≤ Ideal.ofBits .f32 0x3B124925#32 := by
  simp [Ideal.ofBits, Ideal.ieee, -EReal.coe_mul]
/-- The kernel's scale and inverse of a row are the reference's. -/
theorem quant_row {n : ℕ} (h : Fin n → EReal) (c : Fin n) :
    scaleK (expK (amax h) (scaled (amax h))) = qscale h ∧ invK (expK (amax h) (scaled (amax h))) = qinv h :=
  quant _ _ (mul_nonneg (amax_nonneg h c) coef_nonneg) (fun h0 => by unfold scaled; rw [h0, zero_mul])

end Cert.Proof.Val
end
-- ==== Proof.Value.Exps.lean ====
module
public import proofs.«01_k».proof.Proof.Value.Pow2
public import proofs.«01_k».proof.Proof.Gen.KernelIdeal.Skeleton

/-! The kernel's search for the exponent field, and the exponent it gives, at one row. -/

@[expose] public section
noncomputable section
namespace Cert.Proof.KI
open Cert.KernelIdeal Cert.KernelIdeal.Gen Cert.Proof.Val
open Idealize.ShloMosaic Idealize.ShloMosaic.TcCoe

/-- One step of the search, on all rows. -/
def stepV (x : FVec Ideal S48x1 .f32) (g f : IVec S48x1 32) : IVec S48x1 32 :=
  select (cmpf .oge x (bitcastToFloat .f32 (shli g (broadcast S48x1 23#32)))) g f
theorem stepV_at (x : FVec Ideal S48x1 .f32) (f : IVec S48x1 32) (d : BitVec 32) (i : S48x1.Idx) :
    stepV x (addi f (broadcast S48x1 d)) f i = stepK (x i) (f i) d := id rfl
def nextV (x : FVec Ideal S48x1 .f32) (f : IVec S48x1 32) (d : BitVec 32) : IVec S48x1 32 := stepV x (addi f (broadcast S48x1 d)) f
theorem nextV_at (x : FVec Ideal S48x1 .f32) (f : IVec S48x1 32) (d : BitVec 32) (i : S48x1.Idx) :
    nextV x f d i = stepK (x i) (f i) d := stepV_at x f d i
/-- The exponents from the fields. -/
def expV (m : FVec Ideal S48x1 .f32) (f : IVec S48x1 32) : IVec S48x1 32 :=
  select (ori (ori (cmpi .eq f (broadcast S48x1 0#32)) (cmpi .eq f (broadcast S48x1 255#32))) (cmpf .oeq m (broadcast S48x1 (Scalar.ofBits .f32 0x00000000#32))))
    (broadcast S48x1 0#32) (subi f (broadcast S48x1 126#32))

theorem pay292_eq (a : FVec Ideal S48x128 .f32) : k0_pay292 (F := Ideal) a =
    nextV (k0_pay291 a) (nextV (k0_pay291 a) (nextV (k0_pay291 a) (broadcast S48x1 0#32) 128#32) 64#32) 32#32 := id rfl
theorem pay294_eq (m x : FVec Ideal S48x1 .f32) (f g : IVec S48x1 32) :
    k0_pay294 (F := Ideal) m x f g = expV m (nextV x (nextV x (nextV x (nextV x (stepV x g f) 8#32) 4#32) 2#32) 1#32) := id rfl
theorem pay303_eq (x : FVec Ideal S48x1 .f32) : k0_pay303 (F := Ideal) x k0_pay300 k0_pay301 k0_pay302 =
    nextV x (nextV x (nextV x (nextV x (nextV x (nextV x (nextV x (broadcast S48x1 0#32) 128#32) 64#32) 32#32) 16#32) 8#32) 4#32) 2#32 := id rfl
theorem pay305_eq (m x : FVec Ideal S48x1 .f32) (f : IVec S48x1 32) :
    k0_pay305 (F := Ideal) m x f k0_pay304 = expV m (nextV x f 1#32) := id rfl

theorem expV_at (m x : FVec Ideal S48x1 .f32) (f : IVec S48x1 32) (i : S48x1.Idx) (h : f i = fieldK (x i)) : expV m f i = expK (m i) (x i) := by
  unfold expK
  rw [← h]
  exact id rfl
theorem exp1_at (a : FVec Ideal S48x128 .f32) (i : S48x1.Idx) :
    k0_pay294 (F := Ideal) (k0_pay290 (F := Ideal) a) (k0_pay291 (F := Ideal) a) (k0_pay292 (F := Ideal) a) (k0_pay293 (F := Ideal) a) i
      = expK (k0_pay290 (F := Ideal) a i) (k0_pay291 (F := Ideal) a i) := by
  rw [pay294_eq]
  refine expV_at _ _ _ i ?_
  have h : k0_pay293 (F := Ideal) a = addi (k0_pay292 (F := Ideal) a) (broadcast S48x1 16#32) := rfl
  rw [h, pay292_eq]
  unfold fieldK
  simp only [nextV_at, stepV_at]
  exact id rfl
theorem exp2_at (m s : FVec Ideal S48x1 .f32) (i : S48x1.Idx) :
    k0_pay305 (F := Ideal) m s (k0_pay303 (F := Ideal) s k0_pay300 k0_pay301 k0_pay302) k0_pay304 i = expK (m i) (s i) := by
  rw [pay305_eq, pay303_eq]
  refine expV_at _ _ _ i ?_
  unfold fieldK
  simp only [nextV_at]
  exact id rfl
end Cert.Proof.KI
end
-- ==== Proof.Value.KRows.lean ====
module
public import proofs.«01_k».proof.Proof.Value.Spec
public import proofs.«01_k».proof.Proof.Value.Exps

/-! The kernel's payloads after the loop, read at an index: the rows of the plain description. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

/-! ## The exponents -/

theorem scaled_at (a : FVec Ideal S48x128 .f32) (i : S48x1.Idx) : k0_pay291 (F := Ideal) a i = scaled (k0_pay290 (F := Ideal) a i) := id rfl
theorem scale1_at (e : IVec S48x1 32) (i : S48x1.Idx) : k0_pay295 (F := Ideal) e 127#32 i = scaleK (e i) := id rfl
theorem inv1_at (e : IVec S48x1 32) (i : S48x1.Idx) : k0_pay296 (F := Ideal) e i = invK (e i) := id rfl
theorem scale2_at (m s : FVec Ideal S48x1 .f32) (i : S48x1.Idx) :
    k0_pay306 (F := Ideal) m s (k0_pay303 (F := Ideal) s k0_pay300 k0_pay301 k0_pay302) k0_pay304 i = scaleK (expK (m i) (s i)) := by
  rw [← exp2_at m s i]
  generalize k0_pay303 (F := Ideal) s k0_pay300 k0_pay301 k0_pay302 = q
  exact id rfl
theorem inv2_at (m s : FVec Ideal S48x1 .f32) (i : S48x1.Idx) :
    k0_pay307 (F := Ideal) m s (k0_pay303 (F := Ideal) s k0_pay300 k0_pay301 k0_pay302) k0_pay304 i = invK (expK (m i) (s i)) := by
  rw [← exp2_at m s i]
  generalize k0_pay303 (F := Ideal) s k0_pay300 k0_pay301 k0_pay302 = q
  exact id rfl

/-! ## The codes -/

theorem pay308_at (v : FVec Ideal S48x1 .f32) (h : FVec Ideal S48x7168 .f32) (b : Fin 6) (n : Fin 7) (r : Fin 48) (hr : r.val = b.val * 8 + n.val) (d : Fin 7168) :
    k0_pay308 (F := Ideal) v h (ix3 b n d) = code (h (ix2 r d)) (v (ix2 r 0)) := by
  have e : (⟨b.val * 8 + n.val, by omega⟩ : Fin 48) = r := Fin.ext hr.symm
  pointwise [k0_pay308, code, e]
theorem pay1_at (v : FVec Ideal S48x512 .f32) (i : FVec Ideal S48x1 .f32) (b : Fin 6) (n : Fin 7) (r : Fin 48) (hr : r.val = b.val * 8 + n.val) (d : Fin 512) :
    k0_pay1 (F := Ideal) (k0_pay309 (F := Ideal) v i) (Scalar.ofBits .f32 0x43E00000#32) (k0_pay310 (F := Ideal)) (ix3 b n d) = code (v (ix2 r d)) (i (ix2 r 0)) := by
  have e : (⟨b.val * 8 + n.val, by omega⟩ : Fin 48) = r := Fin.ext hr.symm
  pointwise [k0_pay1, k0_pay309, k0_pay310, code, e]

/-! ## The scales, one per lane -/

theorem lane_eq : ∀ a b : Fin 8, IntOp.cmpi .eq (BitVec.ofNat 32 a.val) (BitVec.ofNat 32 b.val) = if a = b then 1#1 else 0#1 := by decide
/-- A sum of eight terms of which one lane's is kept. -/
theorem sum_lane (f : Fin 8 → EReal) (n : Fin 7) :
    (∑ x : Fin 8, Scalar.select (IntOp.cmpi .eq (BitVec.ofNat 32 x.val) (BitVec.ofNat 32 n.val)) (f x) (0 : EReal)) = f ⟨n.val, by omega⟩ := by
  rw [Finset.sum_eq_single (⟨n.val, by omega⟩ : Fin 8)]
  · rw [lane_eq ⟨n.val, by omega⟩ ⟨n.val, by omega⟩, if_pos rfl]; rfl
  · intro x _ hx
    rw [lane_eq x ⟨n.val, by omega⟩, if_neg hx]; rfl
  · intro hx; exact absurd (Finset.mem_univ _) hx
theorem pay2_at (v : FVec Ideal S48x1 .f32) (b : Fin 6) (n : Fin 7) (r : Fin 48) (hr : r.val = b.val * 8 + n.val) :
    k0_pay2 (F := Ideal) v (ix3 b 0 n) = v (ix2 r 0) := by
  have e : (⟨b.val * 8 + n.val, by omega⟩ : Fin 48) = r := Fin.ext hr.symm
  pointwise [k0_pay2]
  exact (sum_lane (fun x => v (ix2 ⟨b.val * 8 + x.val, by omega⟩ 0)) n).trans (congrArg (fun q => v (ix2 q 0)) e)
theorem pay3_at (v : FVec Ideal S48x1 .f32) (b : Fin 6) (n : Fin 7) (r : Fin 48) (hr : r.val = b.val * 8 + n.val) :
    k0_pay3 (F := Ideal) v (ix3 b 0 n) = v (ix2 r 0) := pay2_at v b n r hr

/-! ## The second half -/

variable (e : IVec S48x1 32) (h : FVec Ideal S48x7168 .f32) (w : FVec Ideal S7168x512 .fp8e4m3) (s b : FVec Ideal S1x512 .f32)
theorem pay297_at (H : Fin 7168 → EReal) (r : Fin 48) (hh : ∀ d, h (ix2 r d) = H d) (hs : scaleK (e (ix2 r 0)) = qscale H) (hi : invK (e (ix2 r 0)) = qinv H) (d : Fin 512) :
    k0_pay297 (F := Ideal) e 127#32 h w s b (ix2 r d) = outRow H (fun c d => w (ix2 c d)) (fun d => s (ix2 0 d)) (fun d => b (ix2 0 d)) d := by
  have h1 := (scale1_at e (ix2 r 0)).trans hs
  have h2 := (inv1_at e (ix2 r 0)).trans hi
  pointwise [k0_pay297, outRow, qcode, code, h1, h2, hh]
theorem pay298_at (r : Fin 48) : k0_pay298 (F := Ideal) e 127#32 h w s b (ix2 r 0) = amax fun d => k0_pay297 (F := Ideal) e 127#32 h w s b (ix2 r d) := by
  pointwise [k0_pay298, amax]
  rfl
theorem pay299_at (i : S48x1.Idx) : k0_pay299 (F := Ideal) e 127#32 h w s b i = scaled (k0_pay298 (F := Ideal) e 127#32 h w s b i) := id rfl
end Cert.Proof.KI
end
-- ==== Proof.Value.Slab.lean ====
module
public import proofs.«01_k».proof.Proof.Value.Spec
public import proofs.«01_k».proof.Proof.Run.Hid

/-! What one trip of the kernel's loop computes, element by element: the slab of the hidden rows, and its part of the row maximum. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

/-- The activation text, element by element. -/
theorem act_at (p : FVec Ideal S48x512 .f32) (b : FVec Ideal S1x512 .f32) (i : S48x512.Idx) :
    k0_pay287 (F := Ideal) (k0_pay9 (F := Ideal) p b) (k0_pay10 (F := Ideal) p b) (k0_pay11 (F := Ideal) p b) (k0_pay12 (F := Ideal) p b) (k0_pay13 (F := Ideal) p b)
        (k0_pay16 (F := Ideal) (k0_pay14 (F := Ideal) p b) (k0_pay15 (F := Ideal) p b)) (k0_pay17 (F := Ideal) (k0_pay14 (F := Ideal) p b)) (k0_pay18 (F := Ideal) (k0_pay12 (F := Ideal) p b))
        (k0_pay19 (F := Ideal) (k0_pay11 (F := Ideal) p b)) i
      = gelu (k0_pay8 (F := Ideal) p b i) := rfl
/-- The stored slab. -/
theorem slabOf_at (p : FVec Ideal S48x512 .f32) (b : FVec Ideal S1x512 .f32) (r : Fin 48) (l : Fin 512) :
    slabOf (F := Ideal) p b (ix2 r l) = gelu (p (ix2 r l) + b (ix2 0 l)) := by
  have h := act_at p b (ix2 r l)
  have h8 : k0_pay8 (F := Ideal) p b (ix2 r l) = p (ix2 r l) + b (ix2 0 l) := by pointwise [k0_pay8]
  pointwise [slabOf, k0_pay288]
  exact h.trans (congrArg gelu h8)

/-- One trip's step of the running maximum, lane by lane. -/
theorem maxOf_at (acc : FVec Ideal S48x128 .f32) (p : FVec Ideal S48x512 .f32) (b : FVec Ideal S1x512 .f32) (r : Fin 48) (l : Fin 128) :
    maxOf (F := Ideal) acc p b (ix2 r l)
      = max (max (max (max (acc (ix2 r l)) (let h := slabOf (F := Ideal) p b (ix2 r ⟨l.val, by omega⟩); max h (-h)))
          (let h := slabOf (F := Ideal) p b (ix2 r ⟨128 + l.val, by omega⟩); max h (-h)))
          (let h := slabOf (F := Ideal) p b (ix2 r ⟨256 + l.val, by omega⟩); max h (-h)))
          (let h := slabOf (F := Ideal) p b (ix2 r ⟨384 + l.val, by omega⟩); max h (-h)) := by
  pointwise [maxOf, slabOf, k0_pay289, k0_pay288]
  rfl

/-- A slab's product over the four chunks, as one product over all the columns. -/
theorem pre_at (x0 x1 x2 x3 : FVec Ideal S48x4096 .bf16) (w0 w1 w2 w3 : FVec Ideal S1x4096x512 .fp8e4m3) (s : FVec Ideal S1x512 .f32)
    (X : Fin 16384 → EReal) (W : Fin 16384 → EReal) (r : Fin 48) (l : Fin 512)
    (hx0 : ∀ k : Fin 4096, x0 (ix2 r k) = X ⟨k.val, by omega⟩) (hx1 : ∀ k : Fin 4096, x1 (ix2 r k) = X ⟨4096 + k.val, by omega⟩)
    (hx2 : ∀ k : Fin 4096, x2 (ix2 r k) = X ⟨8192 + k.val, by omega⟩) (hx3 : ∀ k : Fin 4096, x3 (ix2 r k) = X ⟨12288 + k.val, by omega⟩)
    (hw0 : ∀ k : Fin 4096, w0 (ix3 0 k l) = W ⟨k.val, by omega⟩) (hw1 : ∀ k : Fin 4096, w1 (ix3 0 k l) = W ⟨4096 + k.val, by omega⟩)
    (hw2 : ∀ k : Fin 4096, w2 (ix3 0 k l) = W ⟨8192 + k.val, by omega⟩) (hw3 : ∀ k : Fin 4096, w3 (ix3 0 k l) = W ⟨12288 + k.val, by omega⟩) :
    k0_pay7 (F := Ideal) (k0_pay5 (F := Ideal) (k0_pay4 (F := Ideal) x0 w0) x1 w1) (k0_pay6 (F := Ideal) x2 w2) x3 w3 s (ix2 r l)
      = (∑ q, X q * W q) * s (ix2 0 l) := by
  pointwise [k0_pay4, k0_pay5, k0_pay6, k0_pay7, hx0, hx1, hx2, hx3, hw0, hw1, hw2, hw3]
  refine congrArg (· * s (ix2 0 l)) ?_
  rw [Fin.sum_univ_tiles 4 4096 rfl (fun q => X q * W q), Fin.sum_univ_four]
  simp only [Fin.val_zero, Fin.val_one, Fin.val_two, zero_mul, zero_add, one_mul]
  rfl
end Cert.Proof.KI
end
-- ==== Proof.Value.Tiles.lean ====
module
public import proofs.«01_k».proof.Proof.Value.Slab

/-! What a trip's tiles hold: blocks of the first weight read back out of the ring, and blocks of the activations, the scale and the bias. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem
variable {F : FTy → Type} [FloatOps F]

/-- Loading a slot of the ring after a block has landed in it reads the block. -/
theorem ring_read (s : Fin 5) (ch : Fin 4) (off : Fin 3 → Nat) (inb : ∀ a, off a + S1x4096x512.size a ≤ S20x4096x512.size a) (h : off = slotOff s ch)
    (g : S4096x512.Idx → Elt F .fp8e4m3) (q : Fin 4096) (l : Fin 512) :
    (View.readAt (Elt F) mRing.view (Rect.unit (s := S20x4096x512) off S1x4096x512.size inb).toLoadRect
      ((rslot s ch).view.writes (Elt F) (rslot s ch).view.junk [⟨Rect.whole S4096x512, g⟩]) : Vec F S1x4096x512 .fp8e4m3) (ix3 0 q l) = g (ix2 q l) := by
  subst h
  have h1 : (rslot s ch).view.read (Elt F) ((rslot s ch).view.writes (Elt F) (rslot s ch).view.junk [⟨Rect.whole S4096x512, g⟩]) (ix2 q l) = g (ix2 q l) := by
    rw [← View.write_univ_eq_writes_whole, View.read_write_univ]
  have h2 : Shape.reshapeEquiv (s := S1x4096x512) (s' := S4096x512) (by decide) (ix2 q l) = ix3 0 q l := by
    refine (Shape.reshapeEquiv_cons_one (n := 2) (d := ![4096, 512]) _ _).trans ?_
    funext a; fin_cases a <;> rfl
  rw [← h1, ← h2]
  rfl

variable (c : Dev nD) (fw : BufOf F c hW1) (fx : BufOf F c mXb) (fs : BufOf F c mS1) (fb : BufOf F c mB1) (k : Fin k0_t1_loop.trips)

theorem k_lt : k.val < 14 := lt_of_lt_of_eq k.isLt trips_eq
theorem bk_val : (Ring.bk 14 k.val).val = k.val := Nat.mod_eq_of_lt (k_lt k)

/-- An element of a block of the first weight. -/
theorem blk_read (ch : Fin 4) (q : Fin 4096) (l : Fin 512) (hq : 4096 * ch.val + q.val < 16384) (hl : 512 * k.val + l.val < 7168) :
    (ReadAs.same.apply ((blk (Ring.bk 14 k.val) ch).view.read (Elt F) fw) : S4096x512.Idx → Elt F .fp8e4m3) (ix2 q l)
      = (fw : S16384x7168.Idx → Elt F .fp8e4m3) (ix2 ⟨4096 * ch.val + q.val, hq⟩ ⟨512 * k.val + l.val, hl⟩) := by
  show (fw : S16384x7168.Idx → Elt F .fp8e4m3) ((Rect.unit (s := S16384x7168) (blkOff (Ring.bk 14 k.val) ch) S4096x512.size _).emb (ix2 q l)) = _
  refine congrArg (fw : S16384x7168.Idx → Elt F .fp8e4m3) (funext fun a => Fin.ext ?_)
  have hb := bk_val k
  fin_cases a
  · show 4096 * ch.val + 1 * q.val = _; simp
  · show 512 * (Ring.bk 14 k.val).val + 1 * l.val = _; rw [hb]; simp

theorem col_lt (l : Fin 512) : 512 * k.val + l.val < 7168 := by have := k_lt k; omega

theorem wtile0_at (q : Fin 4096) (l : Fin 512) : wtile0 c fw k (ix3 0 q l) = (fw : S16384x7168.Idx → Elt F .fp8e4m3) (ix2 ⟨q.val, by omega⟩ ⟨512 * k.val + l.val, col_lt k l⟩) := by
  refine (ring_read _ _ _ _ (off6_0 k) _ q l).trans ((blk_read c fw k 0 q l (by have := q.isLt; simp; omega) (col_lt k l)).trans ?_)
  congr 2; exact Fin.ext (by simp)
theorem wtile1_at (q : Fin 4096) (l : Fin 512) : wtile1 c fw k (ix3 0 q l) = (fw : S16384x7168.Idx → Elt F .fp8e4m3) (ix2 ⟨4096 + q.val, by omega⟩ ⟨512 * k.val + l.val, col_lt k l⟩) :=
  (ring_read _ _ _ _ (off6_1 k) _ q l).trans (blk_read c fw k 1 q l (by have := q.isLt; simp; omega) (col_lt k l))
theorem wtile2_at (q : Fin 4096) (l : Fin 512) : wtile2 c fw k (ix3 0 q l) = (fw : S16384x7168.Idx → Elt F .fp8e4m3) (ix2 ⟨8192 + q.val, by omega⟩ ⟨512 * k.val + l.val, col_lt k l⟩) :=
  (ring_read _ _ _ _ (off6_2 k) _ q l).trans (blk_read c fw k 2 q l (by have := q.isLt; simp; omega) (col_lt k l))
theorem wtile3_at (q : Fin 4096) (l : Fin 512) : wtile3 c fw k (ix3 0 q l) = (fw : S16384x7168.Idx → Elt F .fp8e4m3) (ix2 ⟨12288 + q.val, by omega⟩ ⟨512 * k.val + l.val, col_lt k l⟩) :=
  (ring_read _ _ _ _ (off6_3 k) _ q l).trans (blk_read c fw k 3 q l (by have := q.isLt; simp; omega) (col_lt k l))

/-- An element of a chunk of the activations. -/
theorem xload_at (o : Nat) (inb : ∀ a, (![0, o] : Fin 2 → Nat) a + S48x4096.size a ≤ S48x16384.size a) (r : Fin 48) (q : Fin 4096) (ho : o + q.val < 16384) :
    (View.readAt (Elt F) mXb.view (Rect.unit (s := S48x16384) ![0, o] S48x4096.size inb).toLoadRect fx : Vec F S48x4096 .bf16) (ix2 r q)
      = (fx : S48x16384.Idx → Elt F .bf16) (ix2 r ⟨o + q.val, ho⟩) := by
  refine congrArg (fx : S48x16384.Idx → Elt F .bf16) (funext fun a => Fin.ext ?_)
  fin_cases a
  · show 0 + 1 * r.val = r.val; omega
  · show o + 1 * q.val = o + q.val; omega

/-- An element of the slab's scale, and of its bias. -/
theorem stile_at (l : Fin 512) : stile c fs k (ix2 0 l) = (fs : S1x7168.Idx → Elt F .f32) (ix2 0 ⟨512 * k.val + l.val, col_lt k l⟩) := by
  refine congrArg (fs : S1x7168.Idx → Elt F .f32) (funext fun a => Fin.ext ?_)
  have h := off22_eq k; have hb := bk_val k
  fin_cases a
  · show k0_off22 k 0 + 1 * 0 = 0; rw [h]; rfl
  · show k0_off22 k 1 + 1 * l.val = _; rw [h]; show 512 * (Ring.bk 14 k.val).val + 1 * l.val = _; rw [hb]; simp
theorem btile_at (l : Fin 512) : btile c fb k (ix2 0 l) = (fb : S1x7168.Idx → Elt F .f32) (ix2 0 ⟨512 * k.val + l.val, col_lt k l⟩) := by
  refine congrArg (fb : S1x7168.Idx → Elt F .f32) (funext fun a => Fin.ext ?_)
  have h := off22_eq k; have hb := bk_val k
  fin_cases a
  · show k0_off22 k 0 + 1 * 0 = 0; rw [h]; rfl
  · show k0_off22 k 1 + 1 * l.val = _; rw [h]; show 512 * (Ring.bk 14 k.val).val + 1 * l.val = _; rw [hb]; simp
end Cert.Proof.KI
end
-- ==== Proof.Value.Max.lean ====
module
public import proofs.«01_k».proof.Proof.Value.Tiles

/-! What the loop leaves: the hidden rows, and their largest magnitudes. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

variable (c : Dev nD) (fw : BufOf Ideal c hW1) (fx : BufOf Ideal c mXb) (fs : BufOf Ideal c mS1) (fb : BufOf Ideal c mB1)

/-- The weight, the activations, the scale and the bias as arrays of numbers. -/
abbrev w1A : S16384x7168.Idx → EReal := fw
abbrev xA : S48x16384.Idx → EReal := fx
abbrev s1A : S1x7168.Idx → EReal := fs
abbrev b1A : S1x7168.Idx → EReal := fb

/-- Row `r` of the hidden array. -/
def hidOf (r : Fin 48) : Fin 7168 → EReal :=
  hidRow (fun q => xA c fx (ix2 r q)) (fun q d => w1A c fw (ix2 q d)) (fun d => s1A c fs (ix2 0 d)) (fun d => b1A c fb (ix2 0 d))

/-- The slab a trip stores. -/
theorem slab_at (k : Fin k0_t1_loop.trips) (r : Fin 48) (l : Fin 512) :
    slabOf (F := Ideal) (preV c fw fx fs k) (btile c fb k) (ix2 r l) = hidOf c fw fx fs fb r ⟨512 * k.val + l.val, col_lt k l⟩ := by
  have hp : preV (F := Ideal) c fw fx fs k (ix2 r l) = _ :=
    pre_at (xtile0 c fx) (xtile1 c fx) (xtile2 c fx) (xtile3 c fx) (wtile0 c fw k) (wtile1 c fw k) (wtile2 c fw k) (wtile3 c fw k) (stile c fs k)
      (fun q => xA c fx (ix2 r q)) (fun q => w1A c fw (ix2 q ⟨512 * k.val + l.val, col_lt k l⟩)) r l
      (fun q => (xload_at c fx 0 _ r q (by omega)).trans (congrArg (fun z => xA c fx (ix2 r z)) (Fin.ext (by show 0 + q.val = q.val; omega))))
      (fun q => xload_at c fx 4096 _ r q (by omega)) (fun q => xload_at c fx 8192 _ r q (by omega)) (fun q => xload_at c fx 12288 _ r q (by omega))
      (fun q => wtile0_at c fw k q l) (fun q => wtile1_at c fw k q l) (fun q => wtile2_at c fw k q l) (fun q => wtile3_at c fw k q l)
  rw [slabOf_at, btile_at, hp, stile_at]
  rfl

/-- The hidden array after the loop. -/
theorem hid_at (fh : BufOf Ideal c mHid) (r : Fin 48) (d : Fin 7168) :
    mHid.view.read (Elt Ideal) (hidAt c fw fx fs fb fh 14) (ix2 r d) = hidOf c fw fx fs fb r d := by
  have hk : d.val / 512 < k0_t1_loop.trips := by rw [trips_eq]; omega
  have h := hid_read c fw fx fs fb fh ⟨d.val / 512, hk⟩ (ix2 r d) (ix2 r ⟨d.val % 512, by omega⟩) rfl (by show d.val = 512 * (d.val / 512) + d.val % 512; omega) 14 le_rfl (by show d.val / 512 < 14; omega)
  refine h.trans ((slab_at c fw fx fs fb ⟨d.val / 512, hk⟩ r ⟨d.val % 512, by omega⟩).trans (congrArg (hidOf c fw fx fs fb r) (Fin.ext ?_)))
  show 512 * (d.val / 512) + d.val % 512 = d.val; omega

/-- The running maximum at a lane bounds what it has seen. -/
theorem acc_le (r : Fin 48) (l : Fin 128) (u : EReal) : ∀ n : ℕ, n ≤ 14 →
    (accAt (F := Ideal) c fw fx fs fb n (ix2 r l) ≤ u ↔ 0 ≤ u ∧ ∀ d : Fin 7168, d.val < 512 * n → d.val % 128 = l.val →
      max (hidOf c fw fx fs fb r d) (-hidOf c fw fx fs fb r d) ≤ u) := by
  intro n
  induction n with
  | zero =>
    intro _
    have h : accAt (F := Ideal) c fw fx fs fb 0 (ix2 r l) = 0 := Ideal.ofBits_zero_f32
    rw [h]
    exact ⟨fun h => ⟨h, fun d hd => absurd hd (by omega)⟩, fun h => h.1⟩
  | succ n ih =>
    intro hn
    have hn' : n < k0_t1_loop.trips := by rw [trips_eq]; omega
    have hs := accAt_succ (F := Ideal) c fw fx fs fb ⟨n, hn'⟩
    simp only at hs
    rw [hs, maxOf_at]
    simp only [slab_at]
    have split : ∀ a b c d e u : EReal, max (max (max (max a b) c) d) e ≤ u ↔ a ≤ u ∧ b ≤ u ∧ c ≤ u ∧ d ≤ u ∧ e ≤ u := by
      intros; simp only [max_le_iff, and_assoc]
    rw [split, ih (by omega)]
    have hl := l.isLt
    constructor
    · rintro ⟨⟨h0, h⟩, h1, h2, h3, h4⟩
      refine ⟨h0, fun d hd hm => ?_⟩
      by_cases hd' : d.val < 512 * n
      · exact h d hd' hm
      · rcases (by omega : d.val = 512 * n + l.val ∨ d.val = 512 * n + (128 + l.val) ∨ d.val = 512 * n + (256 + l.val) ∨ d.val = 512 * n + (384 + l.val)) with e | e | e | e
        · rw [show d = ⟨512 * n + l.val, by omega⟩ from Fin.ext e]; exact h1
        · rw [show d = ⟨512 * n + (128 + l.val), by omega⟩ from Fin.ext e]; exact h2
        · rw [show d = ⟨512 * n + (256 + l.val), by omega⟩ from Fin.ext e]; exact h3
        · rw [show d = ⟨512 * n + (384 + l.val), by omega⟩ from Fin.ext e]; exact h4
    · rintro ⟨h0, h⟩
      refine ⟨⟨h0, fun d hd => h d (by omega)⟩, h _ ?_ ?_, h _ ?_ ?_, h _ ?_ ?_, h _ ?_ ?_⟩
      all_goals simp only
      all_goals omega

/-- Over all the lanes, it is the row's largest magnitude. -/
theorem acc_amax (r : Fin 48) : k0_pay290 (F := Ideal) (accAt (F := Ideal) c fw fx fs fb 14) (ix2 r 0) = amax (hidOf c fw fx fs fb r) := by
  have h := fun (l : Fin 128) (u : EReal) => acc_le c fw fx fs fb r l u 14 le_rfl
  generalize accAt (F := Ideal) c fw fx fs fb 14 = a at h
  pointwise [k0_pay290]
  refine eq_of_forall_ge_iff fun u => ?_
  unfold amax
  rw [Finset.fold_max_le, Finset.fold_max_le]
  constructor
  · rintro ⟨hi, hx⟩
    refine ⟨hi, fun d _ => ?_⟩
    exact ((h ⟨d.val % 128, by omega⟩ u).1 (hx _ (Finset.mem_univ _))).2 d (by have := d.isLt; omega) rfl
  · rintro ⟨hi, hx⟩
    refine ⟨hi, fun l _ => ?_⟩
    exact (h l u).2 ⟨(Cert.Proof.Val.abs_nonneg _).trans (hx ⟨0, by omega⟩ (Finset.mem_univ _)), fun d _ _ => hx d (Finset.mem_univ _)⟩
end Cert.Proof.KI
end
-- ==== Proof.Value.Scales.lean ====
module
public import proofs.«01_k».proof.Proof.Value.Tiles
public import proofs.«01_k».proof.Proof.Run.Out

/-! The key scales, spread one per row: row `8 b + n`, lane `j` of the spread array is the scale of key `16 n + j` of batch `b`. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

/-- The mask keeps, in row `n`, the 16 lanes from `16 n` on. -/
theorem own_at : ∀ (n : Fin 8) (l : Fin 128), bodyRun.sl.r_1 (ix2 n l) = if l.val / 16 = n.val then 1#1 else 0#1 := by decide +kernel

/-- One batch's scales spread over eight rows. -/
theorem spread_at (x : FVec Ideal S1x1x128 .f32) (n : Fin 8) (j : Fin 16) :
    k0_pay30 (F := Ideal) bodyRun.sl.r_1 (k0_pay29 (F := Ideal) x) (ix2 n ⟨j.val, by omega⟩) = x (ix3 0 0 ⟨16 * n.val + j.val, by omega⟩) := by
  pointwise [k0_pay30, k0_pay29, own_at]
  have hj := j.isLt
  have e0 : j.val / 16 = 0 := by omega
  have a1 : (j.val + 128 - 64) % 128 = 64 + j.val := by omega
  have a2 : (j.val + 128 - 32) % 128 = 96 + j.val := by omega
  have a3 : (j.val + 128 - 16) % 128 = 112 + j.val := by omega
  have a4 : (96 + j.val + 128 - 64) % 128 = 32 + j.val := by omega
  have a5 : (112 + j.val + 128 - 64) % 128 = 48 + j.val := by omega
  have a6 : (112 + j.val + 128 - 32) % 128 = 80 + j.val := by omega
  have a7 : (80 + j.val + 128 - 64) % 128 = 16 + j.val := by omega
  have b1 : (64 + j.val) / 16 = 4 := by omega
  have b2 : (96 + j.val) / 16 = 6 := by omega
  have b3 : (112 + j.val) / 16 = 7 := by omega
  have b4 : (32 + j.val) / 16 = 2 := by omega
  have b5 : (48 + j.val) / 16 = 3 := by omega
  have b6 : (80 + j.val) / 16 = 5 := by omega
  have b7 : (16 + j.val) / 16 = 1 := by omega
  simp only [a1, a2, a3, a4, a5, a6, a7, e0, b1, b2, b3, b4, b5, b6, b7]
  fin_cases n <;> simp [Scalar.select]
end Cert.Proof.KI
end
-- ==== Proof.Value.Pieces.lean ====
module
public import proofs.«01_k».proof.Proof.Value.Scales

/-! The stores that fill the activations, all 128 of them, as two shapes of block: a tile of the scaled keys plus its positions, and the same tile moved up one row. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem
variable {F : FTy → Type} [FloatOps F]

theorem col_slices (j : Fin 16) : S48x128.Slices ![0, j.val] S48x1 := by revert j; decide
theorem box_inb (j : Fin 16) (lt : Fin 4) : ∀ a : Fin 3, S1x48x128.size a = 0 ∨ (![lt.val, j.val, 0] : Fin 3 → Nat) a + (![1, 16, 1] : Fin 3 → Nat) a * (S1x48x128.size a - 1) < S4x768x128.size a := by revert j lt; decide
theorem pos_inb (j : Fin 32) (lt : Fin 4) : ∀ a, (![j.val, 128 * lt.val] : Fin 2 → Nat) a + S1x128.size a ≤ S32x512.size a := by revert j lt; decide
theorem store_inb (j : Fin 32) (lt : Fin 4) : ∀ a, (![0, 512 * j.val + 128 * lt.val] : Fin 2 → Nat) a + S48x128.size a ≤ S48x16384.size a := by revert j lt; decide

/-- Column `j` of the spread scales times a tile of keys. -/
def keyV (S : FVec F S48x128 .f32) (v : Vec F S1x48x128 .f32) (j : Fin 16) : FVec F S48x128 .f32 :=
  mulf (shapeCast S48x128 v shapeCasts_S1x48x128_S48x128)
    (broadcastTo S48x128 (shapeCast S48x1 (extractStridedSlice S48x1 ![0, j.val] S (col_slices j)) shapeCasts_S48x1_S48x1) broadcasts_S48x1_S48x128)
/-- The block stored in the first half. -/
def firstV (S : FVec F S48x128 .f32) (v : Vec F S1x48x128 .f32) (p : Vec F S1x128 .f32) (j : Fin 16) : FVec F S48x128 .bf16 :=
  shapeCast S48x128 (truncf .bf16 (addf (keyV S v j) (broadcastTo S48x128 p broadcasts_S1x128_S48x128)) bitsLt_bf16_f32) shapeCasts_S48x128_S48x128
/-- The block stored in the second half. -/
def secondV (S : FVec F S48x128 .f32) (v : Vec F S1x48x128 .f32) (p : Vec F S1x128 .f32) (j : Fin 16) : FVec F S48x128 .bf16 :=
  shapeCast S48x128 (truncf .bf16 (addf (shapeCast S48x128 (dynamicRotate 1 7#32 none (shapeCast S6x8x128 (keyV S v j) shapeCasts_S48x128_S6x8x128) rotates_S6x8x128_d1) shapeCasts_S6x8x128_S48x128)
    (broadcastTo S48x128 p broadcasts_S1x128_S48x128)) bitsLt_bf16_f32) shapeCasts_S48x128_S48x128

variable (c : Dev nD) (gKc : BufOf F c hKc) (gKs : BufOf F c hKs) (gPos : BufOf F c hPos)

/-- A tile of keys: every sixteenth row from `j` on, lanes `128 lt` to `128 lt + 127`. -/
def tileK (j : Fin 16) (lt : Fin 4) : Vec F S1x48x128 .f32 :=
  mKf.view.readCov (bodyRun.sl.MKf_4 c gKc) { off := ![lt.val, j.val, 0], size := S1x48x128.size, stride := ![1, 16, 1], inb := box_inb j lt }
/-- A tile of positions. -/
def tileP (j : Fin 32) (lt : Fin 4) : Vec F S1x128 .f32 :=
  View.readAt (Elt F) mPos.view (Rect.unit (s := S32x512) ![j.val, 128 * lt.val] S1x128.size (pos_inb j lt)).toLoadRect (bodyRun.sl.dma0_2 c gPos)

/-- The two stores of tile `lt` of key `j`. -/
def pieceA (j : Fin 16) (lt : Fin 4) : View.Piece (Elt F) S48x16384 .bf16 :=
  ⟨Rect.unit (s := S48x16384) ![0, 512 * j.val + 128 * lt.val] S48x128.size (store_inb ⟨j.val, by omega⟩ lt), firstV (bodyRun.sl.r_9 c gKs) (tileK c gKc j lt) (tileP c gPos ⟨j.val, by omega⟩ lt) j⟩
def pieceB (j : Fin 16) (lt : Fin 4) : View.Piece (Elt F) S48x16384 .bf16 :=
  ⟨Rect.unit (s := S48x16384) ![0, 512 * (16 + j.val) + 128 * lt.val] S48x128.size (store_inb ⟨16 + j.val, by omega⟩ lt), secondV (bodyRun.sl.r_9 c gKs) (tileK c gKc j lt) (tileP c gPos ⟨16 + j.val, by omega⟩ lt) j⟩

/-- The stores for key `j`, last first. -/
def piecesOf (j : Fin 16) : List (View.Piece (Elt F) S48x16384 .bf16) :=
  [pieceB c gKc gKs gPos j 3, pieceA c gKc gKs gPos j 3, pieceB c gKc gKs gPos j 2, pieceA c gKc gKs gPos j 2,
   pieceB c gKc gKs gPos j 1, pieceA c gKc gKs gPos j 1, pieceB c gKc gKs gPos j 0, pieceA c gKc gKs gPos j 0]

theorem pieces_eq : bodyRun.sl.MXb_128 c gKc gKs gPos
    = [15, 14, 13, 12, 11, 10, 9, 8, 7, 6, 5, 4, 3, 2, 1, 0].flatMap (piecesOf c gKc gKs gPos) := by
  rfl
end Cert.Proof.KI
end
-- ==== Proof.Value.Xb.lean ====
module
public import proofs.«01_k».proof.Proof.Value.Pieces
public import Idealize.ShloMosaic.Lib.Pipeline.ReadBack

/-! The activations the loop reads, element by element. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

variable (c : Dev nD) (gKc : BufOf Ideal c hKc) (gKs : BufOf Ideal c hKs) (gPos : BufOf Ideal c hPos)

/-- The operands as arrays of numbers. -/
abbrev kcA : S768x512.Idx → EReal := gKc
abbrev ksA : S6x1x128.Idx → EReal := gKs
abbrev posA : S32x512.Idx → EReal := gPos

/-! ## The spread scales -/

theorem ks_inb (b : Fin 6) : ∀ a, (![b.val, 0, 0] : Fin 3 → Nat) a + S1x1x128.size a ≤ S6x1x128.size a := by revert b; decide
/-- Batch `b`'s scales, spread. -/
def spread (b : Fin 6) : FVec Ideal S8x128 .f32 :=
  k0_pay30 (F := Ideal) bodyRun.sl.r_1 (k0_pay29 (F := Ideal) (View.readAt (Elt Ideal) mKs.view (Rect.unit (s := S6x1x128) ![b.val, 0, 0] S1x1x128.size (ks_inb b)).toLoadRect (bodyRun.sl.dma0_1 c gKs)))
theorem spread_row (b : Fin 6) (n : Fin 8) (j : Fin 16) :
    spread c gKs b (ix2 n ⟨j.val, by omega⟩) = ksA c gKs (ix3 b 0 ⟨16 * n.val + j.val, by omega⟩) := by
  refine (spread_at _ n j).trans ?_
  refine congrArg (ksA c gKs) (funext fun a => Fin.ext ?_)
  fin_cases a
  · show b.val + 1 * 0 = b.val; omega
  · rfl
  · show 0 + 1 * (16 * n.val + j.val) = 16 * n.val + j.val; omega

theorem r9_eq : bodyRun.sl.r_9 c gKs = concatenate S48x128 0 [⟨S8x128, spread c gKs 0⟩, ⟨S8x128, spread c gKs 1⟩, ⟨S8x128, spread c gKs 2⟩, ⟨S8x128, spread c gKs 3⟩, ⟨S8x128, spread c gKs 4⟩, ⟨S8x128, spread c gKs 5⟩]
    concatenates_S8x128_S8x128_S8x128_S8x128_S8x128_S8x128_S48x128_d0 := rfl

theorem concat6_at (a0 a1 a2 a3 a4 a5 : FVec Ideal S8x128 .f32) (r : Fin 48) (l : Fin 128) :
    (concatenate S48x128 0 [⟨S8x128, a0⟩, ⟨S8x128, a1⟩, ⟨S8x128, a2⟩, ⟨S8x128, a3⟩, ⟨S8x128, a4⟩, ⟨S8x128, a5⟩]
      concatenates_S8x128_S8x128_S8x128_S8x128_S8x128_S8x128_S48x128_d0 : FVec Ideal S48x128 .f32) (ix2 r l)
      = (![a0, a1, a2, a3, a4, a5] ⟨r.val / 8, by omega⟩) (ix2 ⟨r.val % 8, by omega⟩ l) := by
  pointwise
  obtain ⟨b, n, rfl⟩ : ∃ (b : Fin 6) (n : Fin 8), r = ⟨8 * b.val + n.val, by omega⟩ :=
    ⟨⟨r.val / 8, by omega⟩, ⟨r.val % 8, by omega⟩, Fin.ext (by show r.val = 8 * (r.val / 8) + r.val % 8; omega)⟩
  have hb : (⟨(8 * b.val + n.val) / 8, by omega⟩ : Fin 6) = b := Fin.ext (by show (8 * b.val + n.val) / 8 = b.val; omega)
  have hn : (⟨(8 * b.val + n.val) % 8, by omega⟩ : Fin 8) = n := Fin.ext (by show (8 * b.val + n.val) % 8 = n.val; omega)
  simp only [hb, hn]
  have := n.isLt
  fin_cases b <;> simp
  all_goals
    repeat rw [dif_neg (by omega)]
    try rw [dif_pos (by omega)]
  all_goals
    congr 2
    exact Fin.ext (by show _ = n.val; simp; try omega)

/-- The spread scales. -/
theorem scale_at (r : Fin 48) (j : Fin 16) :
    (bodyRun.sl.r_9 c gKs : FVec Ideal S48x128 .f32) (ix2 r ⟨j.val, by omega⟩) = ksA c gKs (ix3 ⟨r.val / 8, by omega⟩ 0 ⟨16 * (r.val % 8) + j.val, by omega⟩) := by
  rw [r9_eq, concat6_at]
  have h : ∀ b : Fin 6, (![spread c gKs 0, spread c gKs 1, spread c gKs 2, spread c gKs 3, spread c gKs 4, spread c gKs 5] b) = spread c gKs b := by
    intro b; fin_cases b <;> rfl
  rw [h]
  exact spread_row c gKs ⟨r.val / 8, by omega⟩ ⟨r.val % 8, by omega⟩ j

/-! ## The keys -/

/-- The keys as the buffer of lane tiles holds them. -/
def kf3 (a : Fin 4) (r : Fin 768) (l : Fin 128) : EReal := kcA c gKc (ix2 r ⟨128 * a.val + l.val, by omega⟩)
def kfG (y : S4x768x128.Idx) : EReal := kf3 c gKc (y (0 : Fin 3)) (y (1 : Fin 3)) (y (2 : Fin 3))
theorem kf_inb (lt : Fin 4) : ∀ a, (![lt.val, 0, 0] : Fin 3 → Nat) a + S1x768x128.size a ≤ S4x768x128.size a := by revert lt; decide
theorem kc_inb (lt : Fin 4) : ∀ a, (![0, 128 * lt.val] : Fin 2 → Nat) a + S768x128.size a ≤ S768x512.size a := by revert lt; decide

theorem kf_piece (lt : Fin 4) (w : FVec Ideal S1x768x128 .f32)
    (hw : w = k0_pay20 (F := Ideal) (View.readAt (Elt Ideal) mKc.view (Rect.unit (s := S768x512) ![0, 128 * lt.val] S768x128.size (kc_inb lt)).toLoadRect (bodyRun.sl.dma0 c gKc)))
    (x : S1x768x128.Idx) : w x = kfG c gKc ((Rect.unit (s := S4x768x128) ![lt.val, 0, 0] S1x768x128.size (kf_inb lt)).emb x) := by
  subst hw
  obtain ⟨i, r, l, rfl⟩ : ∃ (i : Fin 1) (r : Fin 768) (l : Fin 128), x = ix3 i r l := ⟨x 0, x 1, x 2, by funext a; fin_cases a <;> rfl⟩
  obtain rfl : i = 0 := Subsingleton.elim _ _
  generalize hv : View.readAt (Elt Ideal) mKc.view (Rect.unit (s := S768x512) ![0, 128 * lt.val] S768x128.size (kc_inb lt)).toLoadRect (bodyRun.sl.dma0 c gKc) = v
  have hp : k0_pay20 (F := Ideal) v (ix3 0 r l) = (v : S768x128.Idx → EReal) (ix2 r l) := by pointwise [k0_pay20]
  rw [hp, ← hv]
  refine congrArg (kcA c gKc) (funext fun a => Fin.ext ?_)
  fin_cases a
  · show 0 + 1 * r.val = 0 + 1 * r.val; rfl
  · show 128 * lt.val + 1 * l.val = 128 * (lt.val + 1 * 0) + (0 + 1 * l.val); omega

theorem kf_pieces : View.PiecesOf (kfG c gKc) (bodyRun.sl.MKf_4 (F := Ideal) c gKc) :=
  ⟨fun x => kf_piece c gKc 3 _ rfl x, fun x => kf_piece c gKc 2 _ rfl x, fun x => kf_piece c gKc 1 _ rfl x, fun x => kf_piece c gKc 0 _ rfl x, trivial⟩

theorem kf_cover (y : S4x768x128.Idx) : ∃ p ∈ bodyRun.sl.MKf_4 (F := Ideal) c gKc, y ∈ p.1.set := by
  have h1 : (y (1 : Fin 3)).val < 768 := (y (1 : Fin 3)).isLt
  have h2 : (y (2 : Fin 3)).val < 128 := (y (2 : Fin 3)).isLt
  have key : ∀ (lt : Fin 4), (y (0 : Fin 3)).val = lt.val →
      y ∈ (Rect.unit (s := S4x768x128) ![lt.val, 0, 0] S1x768x128.size (kf_inb lt)).set := by
    intro lt h
    rw [Rect.mem_set_unit]
    intro a; fin_cases a
    · show lt.val ≤ (y (0 : Fin 3)).val ∧ (y (0 : Fin 3)).val < lt.val + 1; omega
    · show 0 ≤ (y (1 : Fin 3)).val ∧ (y (1 : Fin 3)).val < 0 + 768; omega
    · show 0 ≤ (y (2 : Fin 3)).val ∧ (y (2 : Fin 3)).val < 0 + 128; omega
  have h0 : (y (0 : Fin 3)).val < 4 := (y (0 : Fin 3)).isLt
  rcases (by omega : (y (0 : Fin 3)).val = 3 ∨ (y (0 : Fin 3)).val = 2 ∨ (y (0 : Fin 3)).val = 1 ∨ (y (0 : Fin 3)).val = 0) with h | h | h | h
  · exact ⟨_, List.mem_cons_self, key 3 h⟩
  · exact ⟨_, List.mem_cons_of_mem _ List.mem_cons_self, key 2 h⟩
  · exact ⟨_, List.mem_cons_of_mem _ (List.mem_cons_of_mem _ List.mem_cons_self), key 1 h⟩
  · exact ⟨_, List.mem_cons_of_mem _ (List.mem_cons_of_mem _ (List.mem_cons_of_mem _ List.mem_cons_self)), key 0 h⟩

/-- A tile of keys. -/
theorem tileK_at (j : Fin 16) (lt : Fin 4) (r : Fin 48) (l : Fin 128) :
    (tileK c gKc j lt : FVec Ideal S1x48x128 .f32) (ix3 0 r l) = kcA c gKc (ix2 ⟨16 * r.val + j.val, by omega⟩ ⟨128 * lt.val + l.val, by omega⟩) := by
  unfold tileK
  rw [View.readCov_eq_canon']
  have h := View.canon_append_of_piecesOf (kfG c gKc) [] _ (kf_pieces c gKc) (({ off := ![lt.val, j.val, 0], size := S1x48x128.size, stride := ![1, 16, 1], inb := box_inb j lt } : LoadRect S4x768x128).idx (ix3 0 r l)) (kf_cover c gKc _)
  rw [List.append_nil] at h
  refine h.trans ?_
  refine congrArg (kcA c gKc) (funext fun a => Fin.ext ?_)
  fin_cases a
  · show j.val + 16 * r.val = 16 * r.val + j.val; omega
  · show 128 * (lt.val + 1 * 0) + (0 + 1 * l.val) = 128 * lt.val + l.val; omega

/-- A tile of positions. -/
theorem tileP_at (j : Fin 32) (lt : Fin 4) (l : Fin 128) :
    (tileP c gPos j lt : FVec Ideal S1x128 .f32) (ix2 0 l) = posA c gPos (ix2 j ⟨128 * lt.val + l.val, by omega⟩) := by
  refine congrArg (posA c gPos) (funext fun a => Fin.ext ?_)
  fin_cases a
  · show j.val + 1 * 0 = j.val; omega
  · show 128 * lt.val + 1 * l.val = 128 * lt.val + l.val; omega

/-! ## A block -/

theorem firstV_at (S : FVec Ideal S48x128 .f32) (v : FVec Ideal S1x48x128 .f32) (p : FVec Ideal S1x128 .f32) (j : Fin 16) (r : Fin 48) (l : Fin 128) :
    firstV (F := Ideal) S v p j (ix2 r l) = v (ix3 0 r l) * S (ix2 r ⟨j.val, by omega⟩) + p (ix2 0 l) := by
  pointwise [firstV, keyV]
theorem secondV_at (S : FVec Ideal S48x128 .f32) (v : FVec Ideal S1x48x128 .f32) (p : FVec Ideal S1x128 .f32) (j : Fin 16) (r r' : Fin 48) (l : Fin 128)
    (hr : r'.val = 8 * (r.val / 8) + (r.val % 8 + 1) % 8) :
    secondV (F := Ideal) S v p j (ix2 r l) = v (ix3 0 r' l) * S (ix2 r' ⟨j.val, by omega⟩) + p (ix2 0 l) := by
  have e : (⟨r.val / 8 * 8 + (r.val % 8 + 8 - 7) % 8, by omega⟩ : Fin 48) = r' := Fin.ext (by show r.val / 8 * 8 + (r.val % 8 + 8 - 7) % 8 = r'.val; omega)
  pointwise [secondV, keyV, e]

/-! ## The whole array -/

/-- The key a row and a column take. -/
def keyOf (r : Fin 48) (q : Fin 16384) : Fin 128 := ⟨16 * ((r.val % 8 + q.val / 8192) % 8) + q.val / 512 % 16, by omega⟩
/-- The activations, element by element. -/
def actG (r : Fin 48) (q : Fin 16384) : EReal :=
  kcA c gKc (ix2 ⟨128 * (r.val / 8) + (keyOf r q).val, by have := (keyOf r q).isLt; omega⟩ ⟨q.val % 512, by omega⟩)
    * ksA c gKs (ix3 ⟨r.val / 8, by omega⟩ 0 (keyOf r q))
    + posA c gPos (ix2 ⟨q.val / 512, by omega⟩ ⟨q.val % 512, by omega⟩)
def xbG (y : S48x16384.Idx) : EReal := actG c gKc gKs gPos (y (0 : Fin 2)) (y (1 : Fin 2))

theorem act_block (j : Fin 32) (lt : Fin 4) (r r' : Fin 48) (l : Fin 128) (q : Fin 16384) (i : Fin 16) (hi : i.val = j.val % 16) (hq : q.val = 512 * j.val + 128 * lt.val + l.val)
    (hr : r'.val = 8 * (r.val / 8) + (r.val % 8 + j.val / 16) % 8) :
    (tileK c gKc i lt : FVec Ideal S1x48x128 .f32) (ix3 0 r' l) * (bodyRun.sl.r_9 c gKs : FVec Ideal S48x128 .f32) (ix2 r' ⟨i.val, by omega⟩) + (tileP c gPos j lt : FVec Ideal S1x128 .f32) (ix2 0 l)
      = actG c gKc gKs gPos r q := by
  have hj := j.isLt; have hlt := lt.isLt; have hl := l.isLt; have hrr := r.isLt
  have hq5 : q.val / 512 = j.val := by omega
  have hq8 : q.val / 8192 = j.val / 16 := by omega
  have hqm : q.val % 512 = 128 * lt.val + l.val := by omega
  have hb : r'.val / 8 = r.val / 8 := by omega
  have hn : r'.val % 8 = (r.val % 8 + j.val / 16) % 8 := by omega
  rw [tileK_at, scale_at, tileP_at]
  unfold actG
  have e1 : (⟨16 * r'.val + i.val, by omega⟩ : Fin 768) = ⟨128 * (r.val / 8) + (keyOf r q).val, by have := (keyOf r q).isLt; omega⟩ := Fin.ext (by
    show 16 * r'.val + i.val = 128 * (r.val / 8) + (16 * ((r.val % 8 + q.val / 8192) % 8) + q.val / 512 % 16)
    rw [hq5, hq8]; omega)
  have e2 : (⟨128 * lt.val + l.val, by omega⟩ : Fin 512) = ⟨q.val % 512, by omega⟩ := Fin.ext hqm.symm
  have e3 : (⟨r'.val / 8, by omega⟩ : Fin 6) = ⟨r.val / 8, by omega⟩ := Fin.ext hb
  have e4 : (⟨16 * (r'.val % 8) + i.val, by omega⟩ : Fin 128) = keyOf r q := Fin.ext (by
    show 16 * (r'.val % 8) + i.val = 16 * ((r.val % 8 + q.val / 8192) % 8) + q.val / 512 % 16
    rw [hq5, hq8, hn]; omega)
  have e5 : j = ⟨q.val / 512, by omega⟩ := Fin.ext hq5.symm
  rw [e1, e2, e3, e4]
  exact congrArg (fun z => _ + posA c gPos (ix2 z _)) e5

theorem pieceA_ok (j : Fin 16) (lt : Fin 4) (x : (pieceA (F := Ideal) c gKc gKs gPos j lt).1.shape.Idx) :
    (pieceA (F := Ideal) c gKc gKs gPos j lt).2 x = xbG c gKc gKs gPos ((pieceA (F := Ideal) c gKc gKs gPos j lt).1.emb x) := by
  obtain ⟨r, l, rfl⟩ : ∃ (r : Fin 48) (l : Fin 128), x = ix2 r l := ⟨x (0 : Fin 2), x (1 : Fin 2), by funext a; fin_cases a <;> rfl⟩
  refine (firstV_at _ _ _ j r l).trans ?_
  refine (act_block c gKc gKs gPos ⟨j.val, by omega⟩ lt r r l ⟨512 * j.val + 128 * lt.val + l.val, by omega⟩ j (by show j.val = j.val % 16; omega) rfl (by show r.val = 8 * (r.val / 8) + (r.val % 8 + j.val / 16) % 8; omega)).trans ?_
  unfold xbG
  refine congrArg₂ (actG c gKc gKs gPos) (Fin.ext ?_) (Fin.ext ?_)
  · show r.val = 0 + 1 * r.val; omega
  · show 512 * j.val + 128 * lt.val + l.val = 512 * j.val + 128 * lt.val + 1 * l.val; omega
theorem pieceB_ok (j : Fin 16) (lt : Fin 4) (x : (pieceB (F := Ideal) c gKc gKs gPos j lt).1.shape.Idx) :
    (pieceB (F := Ideal) c gKc gKs gPos j lt).2 x = xbG c gKc gKs gPos ((pieceB (F := Ideal) c gKc gKs gPos j lt).1.emb x) := by
  obtain ⟨r, l, rfl⟩ : ∃ (r : Fin 48) (l : Fin 128), x = ix2 r l := ⟨x (0 : Fin 2), x (1 : Fin 2), by funext a; fin_cases a <;> rfl⟩
  refine (secondV_at _ _ _ j r ⟨8 * (r.val / 8) + (r.val % 8 + 1) % 8, by omega⟩ l rfl).trans ?_
  refine (act_block c gKc gKs gPos ⟨16 + j.val, by omega⟩ lt r ⟨8 * (r.val / 8) + (r.val % 8 + 1) % 8, by omega⟩ l ⟨512 * (16 + j.val) + 128 * lt.val + l.val, by omega⟩ j (by show j.val = (16 + j.val) % 16; omega) rfl
    (by show 8 * (r.val / 8) + (r.val % 8 + 1) % 8 = 8 * (r.val / 8) + (r.val % 8 + (16 + j.val) / 16) % 8; omega)).trans ?_
  unfold xbG
  refine congrArg₂ (actG c gKc gKs gPos) (Fin.ext ?_) (Fin.ext ?_)
  · show r.val = 0 + 1 * r.val; omega
  · show 512 * (16 + j.val) + 128 * lt.val + l.val = 512 * (16 + j.val) + 128 * lt.val + 1 * l.val; omega

theorem piece_cover (y : S48x16384.Idx) : ∃ p ∈ bodyRun.sl.MXb_128 (F := Ideal) c gKc gKs gPos, y ∈ p.1.set := by
  have h0 : (y (0 : Fin 2)).val < 48 := (y (0 : Fin 2)).isLt
  have h1 : (y (1 : Fin 2)).val < 16384 := (y (1 : Fin 2)).isLt
  have hall : ∀ j : Fin 16, j ∈ ([15, 14, 13, 12, 11, 10, 9, 8, 7, 6, 5, 4, 3, 2, 1, 0] : List (Fin 16)) := by decide
  have hA : ∀ (j : Fin 16) (lt : Fin 4), pieceA (F := Ideal) c gKc gKs gPos j lt ∈ piecesOf c gKc gKs gPos j := by
    intro j lt; fin_cases lt <;> simp [piecesOf]
  have hB : ∀ (j : Fin 16) (lt : Fin 4), pieceB (F := Ideal) c gKc gKs gPos j lt ∈ piecesOf c gKc gKs gPos j := by
    intro j lt; fin_cases lt <;> simp [piecesOf]
  rw [pieces_eq]
  by_cases h : (y (1 : Fin 2)).val < 8192
  · refine ⟨_, List.mem_flatMap.2 ⟨⟨(y (1 : Fin 2)).val / 512, by omega⟩, hall _, hA _ ⟨(y (1 : Fin 2)).val / 128 % 4, by omega⟩⟩, ?_⟩
    unfold pieceA
    rw [Rect.mem_set_unit]
    intro a; fin_cases a
    · show 0 ≤ (y (0 : Fin 2)).val ∧ (y (0 : Fin 2)).val < 0 + 48; omega
    · show 512 * ((y (1 : Fin 2)).val / 512) + 128 * ((y (1 : Fin 2)).val / 128 % 4) ≤ (y (1 : Fin 2)).val ∧ (y (1 : Fin 2)).val < 512 * ((y (1 : Fin 2)).val / 512) + 128 * ((y (1 : Fin 2)).val / 128 % 4) + 128
      omega
  · refine ⟨_, List.mem_flatMap.2 ⟨⟨(y (1 : Fin 2)).val / 512 - 16, by omega⟩, hall _, hB _ ⟨(y (1 : Fin 2)).val / 128 % 4, by omega⟩⟩, ?_⟩
    unfold pieceB
    rw [Rect.mem_set_unit]
    intro a; fin_cases a
    · show 0 ≤ (y (0 : Fin 2)).val ∧ (y (0 : Fin 2)).val < 0 + 48; omega
    · show 512 * (16 + ((y (1 : Fin 2)).val / 512 - 16)) + 128 * ((y (1 : Fin 2)).val / 128 % 4) ≤ (y (1 : Fin 2)).val ∧ (y (1 : Fin 2)).val < 512 * (16 + ((y (1 : Fin 2)).val / 512 - 16)) + 128 * ((y (1 : Fin 2)).val / 128 % 4) + 128
      omega

/-- What the loop reads. -/
abbrev xbOf : BufOf Ideal c mXb := mXb.view.writes (Elt Ideal) mXb.view.junk (bodyRun.sl.MXb_128 c gKc gKs gPos)
theorem xb_at (r : Fin 48) (q : Fin 16384) : (xbOf c gKc gKs gPos : S48x16384.Idx → EReal) (ix2 r q) = actG c gKc gKs gPos r q := by
  have hok : ∀ p ∈ bodyRun.sl.MXb_128 (F := Ideal) c gKc gKs gPos, ∀ x : p.1.shape.Idx, p.2 x = xbG c gKc gKs gPos (p.1.emb x) := by
    rw [pieces_eq]
    intro p hp
    obtain ⟨j, -, hj⟩ := List.mem_flatMap.1 hp
    simp only [piecesOf, List.mem_cons, List.not_mem_nil, or_false] at hj
    rcases hj with rfl | rfl | rfl | rfl | rfl | rfl | rfl | rfl
    · exact pieceB_ok c gKc gKs gPos j 3
    · exact pieceA_ok c gKc gKs gPos j 3
    · exact pieceB_ok c gKc gKs gPos j 2
    · exact pieceA_ok c gKc gKs gPos j 2
    · exact pieceB_ok c gKc gKs gPos j 1
    · exact pieceA_ok c gKc gKs gPos j 1
    · exact pieceB_ok c gKc gKs gPos j 0
    · exact pieceA_ok c gKc gKs gPos j 0
  have h := View.canon_append_of_pieces (xbG c gKc gKs gPos) [] _ hok (ix2 r q) (piece_cover c gKc gKs gPos _)
  rw [List.append_nil, ← View.read_writes_junk_eq_canon mXb.view] at h
  exact h

/-- Row `8 b + n` of it is window `n` of batch `b`. -/
theorem act_win (b : Fin 6) (n : Fin 7) (r : Fin 48) (hr : r.val = 8 * b.val + n.val) (q : Fin 16384) :
    actG c gKc gKs gPos r q
      = winRow (fun b s d => kcA c gKc (ix2 ⟨128 * b.val + s.val, by omega⟩ d)) (fun b s => ksA c gKs (ix3 b 0 s)) (fun j d => posA c gPos (ix2 j d)) b n q := by
  have hq := q.isLt; have hn := n.isLt; have hb := b.isLt
  have e1 : (⟨r.val / 8, by omega⟩ : Fin 6) = b := Fin.ext (by show r.val / 8 = b.val; omega)
  have e2 : keyOf r q = ⟨16 * n.val + q.val / 512, by omega⟩ := Fin.ext (by
    show 16 * ((r.val % 8 + q.val / 8192) % 8) + q.val / 512 % 16 = 16 * n.val + q.val / 512
    have h1 : r.val % 8 = n.val := by omega
    have h2 : (n.val + q.val / 8192) % 8 = n.val + q.val / 8192 := by omega
    rw [h1, h2]; omega)
  have e3 : (⟨128 * (r.val / 8) + (keyOf r q).val, by have := (keyOf r q).isLt; omega⟩ : Fin 768) = ⟨128 * b.val + (16 * n.val + q.val / 512), by omega⟩ := Fin.ext (by
    show 128 * (r.val / 8) + (keyOf r q).val = 128 * b.val + (16 * n.val + q.val / 512)
    rw [e2]; show 128 * (r.val / 8) + (16 * n.val + q.val / 512) = _; omega)
  unfold actG winRow
  rw [e3, e1, e2]
end Cert.Proof.KI
end
-- ==== Proof.Value.Rows.lean ====
module
public import proofs.«01_k».proof.Proof.Value.KRows
public import proofs.«01_k».proof.Proof.Value.Max
public import proofs.«01_k».proof.Proof.Value.Xb
public import Idealize.ShloMosaic.Lib.VecWindow

/-! The four results of the kernel, row by row, as the plain description of the operands. -/

@[expose] public section
set_option maxRecDepth 16384
noncomputable section
namespace Cert.Proof.KI
open Cert.KernelIdeal Cert.KernelIdeal.Gen Cert.Proof.Val
open Idealize.ShloMosaic Idealize.ShloMosaic.TcCoe Idealize.ShloMosaic.Tactic
open Idealize.SL.Sem

variable (c : Dev nD)
  (gKc : BufOf Ideal c hKc) (gKs : BufOf Ideal c hKs) (gPos : BufOf Ideal c hPos) (gW1 : BufOf Ideal c hW1) (gS1 : BufOf Ideal c hS1) (gB1 : BufOf Ideal c hB1)
  (gW2 : BufOf Ideal c hW2) (gS2 : BufOf Ideal c hS2) (gB2 : BufOf Ideal c hB2)

/-- The other operands as arrays of numbers. -/
abbrev gW1A : S16384x7168.Idx → EReal := gW1
abbrev gS1A : S1x7168.Idx → EReal := gS1
abbrev gB1A : S1x7168.Idx → EReal := gB1
abbrev gW2A : S7168x512.Idx → EReal := gW2
abbrev gS2A : S1x512.Idx → EReal := gS2
abbrev gB2A : S1x512.Idx → EReal := gB2

/-- The hidden row of batch `b` and window `n`. -/
def hidW (b : Fin 6) (n : Fin 7) : Fin 7168 → EReal :=
  hidRow (winRow (fun b s d => kcA c gKc (ix2 ⟨128 * b.val + s.val, by omega⟩ d)) (fun b s => ksA c gKs (ix3 b 0 s)) (fun j d => posA c gPos (ix2 j d)) b n)
    (fun q d => gW1A c gW1 (ix2 q d)) (fun d => gS1A c gS1 (ix2 0 d)) (fun d => gB1A c gB1 (ix2 0 d))

theorem hidOf_win (b : Fin 6) (n : Fin 7) (r : Fin 48) (hr : r.val = 8 * b.val + n.val) :
    hidOf c gW1 (xbOf c gKc gKs gPos) (bodyRun.sl.dma0_3 c gS1) (bodyRun.sl.dma0_4 c gB1) r = hidW c gKc gKs gPos gW1 gS1 gB1 b n := by
  unfold hidOf hidW
  have h : (fun q => xA c (xbOf c gKc gKs gPos) (ix2 r q)) = winRow (fun b s d => kcA c gKc (ix2 ⟨128 * b.val + s.val, by omega⟩ d)) (fun b s => ksA c gKs (ix3 b 0 s)) (fun j d => posA c gPos (ix2 j d)) b n :=
    funext fun q => (xb_at c gKc gKs gPos r q).trans (act_win c gKc gKs gPos b n r hr q)
  rw [h]
  rfl

/-- The exponent of a hidden row gives its scale and inverse. -/
theorem e83 (r : Fin 48) (H : Fin 7168 → EReal) (hH : hidOf c gW1 (xbOf c gKc gKs gPos) (bodyRun.sl.dma0_3 c gS1) (bodyRun.sl.dma0_4 c gB1) r = H) :
    scaleK (bodyRun.sl.r_83 (F := Ideal) c gKc gKs gPos gW1 gS1 gB1 (ix2 r 0)) = qscale H ∧ invK (bodyRun.sl.r_83 (F := Ideal) c gKc gKs gPos gW1 gS1 gB1 (ix2 r 0)) = qinv H := by
  have h := exp1_at (accAt (F := Ideal) c gW1 (xbOf c gKc gKs gPos) (bodyRun.sl.dma0_3 c gS1) (bodyRun.sl.dma0_4 c gB1) 14) (ix2 r 0)
  rw [scaled_at, acc_amax, hH] at h
  have e : bodyRun.sl.r_83 (F := Ideal) c gKc gKs gPos gW1 gS1 gB1 (ix2 r 0) = expK (amax H) (scaled (amax H)) := h
  rw [e]
  exact quant_row H 0

/-- The hidden array as the second half loads it. -/
def hidL : FVec Ideal S48x7168 .f32 :=
  View.readAt (Elt Ideal) mHid.view (Rect.unit ![0, 0] S48x7168.size inb_S48x7168_S48x7168_0_0).toLoadRect (hidAt (F := Ideal) c gW1 (xbOf c gKc gKs gPos) (bodyRun.sl.dma0_3 c gS1) (bodyRun.sl.dma0_4 c gB1) mHid.view.junk 14)
theorem hidL_at (r : Fin 48) (d : Fin 7168) :
    hidL c gKc gKs gPos gW1 gS1 gB1 (ix2 r d) = hidOf c gW1 (xbOf c gKc gKs gPos) (bodyRun.sl.dma0_3 c gS1) (bodyRun.sl.dma0_4 c gB1) r d := by
  have h : hidL c gKc gKs gPos gW1 gS1 gB1 = mHid.view.read (Elt Ideal) (hidAt (F := Ideal) c gW1 (xbOf c gKc gKs gPos) (bodyRun.sl.dma0_3 c gS1) (bodyRun.sl.dma0_4 c gB1) mHid.view.junk 14) := View.readAt_full _ _ _
  rw [h]
  exact hid_at c gW1 (xbOf c gKc gKs gPos) (bodyRun.sl.dma0_3 c gS1) (bodyRun.sl.dma0_4 c gB1) mHid.view.junk r d
theorem hidL_win (b : Fin 6) (n : Fin 7) (r : Fin 48) (hr : r.val = 8 * b.val + n.val) (d : Fin 7168) :
    hidL c gKc gKs gPos gW1 gS1 gB1 (ix2 r d) = hidW c gKc gKs gPos gW1 gS1 gB1 b n d := by
  rw [hidL_at, hidOf_win c gKc gKs gPos gW1 gS1 gB1 b n r hr]

theorem out12_at (b : Fin 6) (n : Fin 7) : out12 (F := Ideal) c gKc gKs gPos gW1 gS1 gB1 (ix3 b 0 n) = qscale (hidW c gKc gKs gPos gW1 gS1 gB1 b n) := by
  have h := e83 c gKc gKs gPos gW1 gS1 gB1 ⟨8 * b.val + n.val, by omega⟩ _ (hidOf_win c gKc gKs gPos gW1 gS1 gB1 b n ⟨8 * b.val + n.val, by omega⟩ rfl)
  exact (pay2_at _ b n ⟨8 * b.val + n.val, by omega⟩ (by show 8 * b.val + n.val = b.val * 8 + n.val; omega)).trans ((scale1_at _ _).trans h.1)
theorem out11_at (b : Fin 6) (n : Fin 7) (d : Fin 7168) : out11 (F := Ideal) c gKc gKs gPos gW1 gS1 gB1 (ix3 b n d) = qcode (hidW c gKc gKs gPos gW1 gS1 gB1 b n) d := by
  have hw := hidOf_win c gKc gKs gPos gW1 gS1 gB1 b n ⟨8 * b.val + n.val, by omega⟩ rfl
  have h := e83 c gKc gKs gPos gW1 gS1 gB1 ⟨8 * b.val + n.val, by omega⟩ _ hw
  have hl := hidL_win c gKc gKs gPos gW1 gS1 gB1 b n ⟨8 * b.val + n.val, by omega⟩ rfl d
  have hi := (inv1_at (bodyRun.sl.r_83 (F := Ideal) c gKc gKs gPos gW1 gS1 gB1) (ix2 ⟨8 * b.val + n.val, by omega⟩ 0)).trans h.2
  refine (pay308_at _ (hidL c gKc gKs gPos gW1 gS1 gB1) b n ⟨8 * b.val + n.val, by omega⟩ (by show 8 * b.val + n.val = b.val * 8 + n.val; omega) d).trans ?_
  rw [hl]
  exact congrArg (code _) hi

/-- The row of keys. -/
def outW (b : Fin 6) (n : Fin 7) : Fin 512 → EReal :=
  outRow (hidW c gKc gKs gPos gW1 gS1 gB1 b n) (fun q d => gW2A c gW2 (ix2 q d)) (fun d => gS2A c gS2 (ix2 0 d)) (fun d => gB2A c gB2 (ix2 0 d))

/-- The second half's weight, scale and bias as it loads them. -/
def w2L : FVec Ideal S7168x512 .fp8e4m3 := View.readAt (Elt Ideal) mW2.view (Rect.unit ![0, 0] S7168x512.size inb_S7168x512_S7168x512_0_0).toLoadRect (bodyRun.sl.dma0_27 (F := Ideal) c gW2)
def s2L : FVec Ideal S1x512 .f32 := View.readAt (Elt Ideal) mS2.view (Rect.unit ![0, 0] S1x512.size inb_S1x512_S1x512_0_0).toLoadRect (bodyRun.sl.dma0_5 (F := Ideal) c gS2)
def b2L : FVec Ideal S1x512 .f32 := View.readAt (Elt Ideal) mB2.view (Rect.unit ![0, 0] S1x512.size inb_S1x512_S1x512_0_0).toLoadRect (bodyRun.sl.dma0_6 (F := Ideal) c gB2)
theorem w2L_eq : w2L c gW2 = gW2A c gW2 := View.readAt_full _ _ _
theorem s2L_eq : s2L c gS2 = gS2A c gS2 := View.readAt_full _ _ _
theorem b2L_eq : b2L c gB2 = gB2A c gB2 := View.readAt_full _ _ _

theorem r86_at (b : Fin 6) (n : Fin 7) (r : Fin 48) (hr : r.val = 8 * b.val + n.val) (d : Fin 512) :
    bodyRun.sl.r_86 (F := Ideal) c gKc gKs gPos gW1 gS1 gB1 gW2 gS2 gB2 (ix2 r d) = outW c gKc gKs gPos gW1 gS1 gB1 gW2 gS2 gB2 b n d := by
  have h := e83 c gKc gKs gPos gW1 gS1 gB1 r _ (hidOf_win c gKc gKs gPos gW1 gS1 gB1 b n r hr)
  have hp := pay297_at (bodyRun.sl.r_83 (F := Ideal) c gKc gKs gPos gW1 gS1 gB1) (hidL c gKc gKs gPos gW1 gS1 gB1) (w2L c gW2) (s2L c gS2) (b2L c gB2)
    (hidW c gKc gKs gPos gW1 gS1 gB1 b n) r (hidL_win c gKc gKs gPos gW1 gS1 gB1 b n r hr) h.1 h.2 d
  refine Eq.trans (b := _) ?_ hp |>.trans ?_
  · rfl
  · rw [w2L_eq, s2L_eq, b2L_eq]; rfl
theorem r87_at (b : Fin 6) (n : Fin 7) (r : Fin 48) (hr : r.val = 8 * b.val + n.val) :
    bodyRun.sl.r_87 (F := Ideal) c gKc gKs gPos gW1 gS1 gB1 gW2 gS2 gB2 (ix2 r 0) = amax (outW c gKc gKs gPos gW1 gS1 gB1 gW2 gS2 gB2 b n) :=
  (pay298_at _ _ _ _ _ r).trans (congrArg amax (funext fun d => r86_at c gKc gKs gPos gW1 gS1 gB1 gW2 gS2 gB2 b n r hr d))
theorem r88_at (b : Fin 6) (n : Fin 7) (r : Fin 48) (hr : r.val = 8 * b.val + n.val) :
    bodyRun.sl.r_88 (F := Ideal) c gKc gKs gPos gW1 gS1 gB1 gW2 gS2 gB2 (ix2 r 0) = scaled (amax (outW c gKc gKs gPos gW1 gS1 gB1 gW2 gS2 gB2 b n)) :=
  (pay299_at _ _ _ _ _ (ix2 r 0)).trans (congrArg scaled (r87_at c gKc gKs gPos gW1 gS1 gB1 gW2 gS2 gB2 b n r hr))

theorem out10_at (b : Fin 6) (n : Fin 7) : out10 (F := Ideal) c gKc gKs gPos gW1 gS1 gB1 gW2 gS2 gB2 (ix3 b 0 n) = qscale (outW c gKc gKs gPos gW1 gS1 gB1 gW2 gS2 gB2 b n) := by
  refine (pay3_at _ b n ⟨8 * b.val + n.val, by omega⟩ (by show 8 * b.val + n.val = b.val * 8 + n.val; omega)).trans ?_
  refine (scale2_at _ _ _).trans ?_
  rw [r87_at c gKc gKs gPos gW1 gS1 gB1 gW2 gS2 gB2 b n _ rfl, r88_at c gKc gKs gPos gW1 gS1 gB1 gW2 gS2 gB2 b n _ rfl]
  exact (quant_row _ 0).1
theorem out9_at (b : Fin 6) (n : Fin 7) (d : Fin 512) : out9 (F := Ideal) c gKc gKs gPos gW1 gS1 gB1 gW2 gS2 gB2 (ix3 b n d) = qcode (outW c gKc gKs gPos gW1 gS1 gB1 gW2 gS2 gB2 b n) d := by
  refine (pay1_at _ _ b n ⟨8 * b.val + n.val, by omega⟩ (by show 8 * b.val + n.val = b.val * 8 + n.val; omega) d).trans ?_
  rw [r86_at c gKc gKs gPos gW1 gS1 gB1 gW2 gS2 gB2 b n _ rfl]
  refine congrArg (code _) ((inv2_at _ _ _).trans ?_)
  rw [r87_at c gKc gKs gPos gW1 gS1 gB1 gW2 gS2 gB2 b n _ rfl, r88_at c gKc gKs gPos gW1 gS1 gB1 gW2 gS2 gB2 b n _ rfl]
  exact (quant_row _ 0).2
end Cert.Proof.KI
end
-- ==== Proof.Value.Args.lean ====
module
public import proofs.«01_k».proof.Proof.Value.Rows
public import proofs.«01_k».proof.Proof.Run.Launch
public import Idealize.ShloMosaic.Lib.Claim
public import Idealize.ShloMosaic.Lib.Pipeline.ValueKit

/-! The kernel's operands at the region's entry: the arguments, reshaped. And its four results after the run. -/

@[expose] public section
noncomputable section
namespace Cert.Proof.KI
open Cert.KernelIdeal Cert.KernelIdeal.Gen Cert.Proof.Val
open Idealize.ShloMosaic Idealize.ShloMosaic.TcCoe Idealize.ShloMosaic.Tactic
open Idealize.SL.Sem

variable (m : (ℓ : Loc nD τ sig) → Buf (Elt Ideal) ℓ) (c : Dev nD)

theorem v0_eq : V m c main_v0 = shapeCast S768x512 (m ((c.tc : Thread nD τ).loc main_arg0)) shapeCasts_S6x128x1x512_S768x512 := by
  unfold_abbrev_sides
  after_results
  rfl
theorem v1_eq : V m c main_v1 = shapeCast S6x1x128 (m ((c.tc : Thread nD τ).loc main_arg1)) shapeCasts_S6x128x1_S6x1x128 := by
  unfold_abbrev_sides
  after_results
  rfl
theorem v2_eq : V m c main_v2 = shapeCast S16384x7168 (m ((c.tc : Thread nD τ).loc main_arg3)) shapeCasts_S32x512x7168_S16384x7168 := by
  unfold_abbrev_sides
  after_results
  rfl
theorem v3_eq : V m c main_v3 = shapeCast S1x7168 (m ((c.tc : Thread nD τ).loc main_arg4)) shapeCasts_S7168_S1x7168 := by
  unfold_abbrev_sides
  after_results
  rfl
theorem v4_eq : V m c main_v4 = shapeCast S1x7168 (m ((c.tc : Thread nD τ).loc main_arg5)) shapeCasts_S7168_S1x7168 := by
  unfold_abbrev_sides
  after_results
  rfl
theorem v5_eq : V m c main_v5 = shapeCast S1x512 (m ((c.tc : Thread nD τ).loc main_arg7)) shapeCasts_S512_S1x512 := by
  unfold_abbrev_sides
  after_results
  rfl
theorem v6_eq : V m c main_v6 = shapeCast S1x512 (m ((c.tc : Thread nD τ).loc main_arg8)) shapeCasts_S512_S1x512 := by
  unfold_abbrev_sides
  after_results
  rfl

theorem arr0 : (dats m 0 c).arrAt 0 cfg0.N = out9 (F := Ideal) c (V m c main_v0) (V m c main_v1) (V m c main_arg2) (V m c main_v2) (V m c main_v3) (V m c main_v4) (V m c main_arg6) (V m c main_v5) (V m c main_v6) := by
  refine (dats m 0 c).arrAt_eq_of_after_last 0 t0_0 (by decide +kernel) _ fun j => ?_
  blk_simp
  rw [after_0]
theorem arr1 : (dats m 0 c).arrAt 1 cfg0.N = out10 (F := Ideal) c (V m c main_v0) (V m c main_v1) (V m c main_arg2) (V m c main_v2) (V m c main_v3) (V m c main_v4) (V m c main_arg6) (V m c main_v5) (V m c main_v6) := by
  refine (dats m 0 c).arrAt_eq_of_after_last 1 t0_0 (by decide +kernel) _ fun j => ?_
  blk_simp
  rw [after_1]
theorem arr2 : (dats m 0 c).arrAt 2 cfg0.N = out11 (F := Ideal) c (V m c main_v0) (V m c main_v1) (V m c main_arg2) (V m c main_v2) (V m c main_v3) (V m c main_v4) := by
  refine (dats m 0 c).arrAt_eq_of_after_last 2 t0_0 (by decide +kernel) _ fun j => ?_
  blk_simp
  rw [after_2]
theorem arr3 : (dats m 0 c).arrAt 3 cfg0.N = out12 (F := Ideal) c (V m c main_v0) (V m c main_v1) (V m c main_arg2) (V m c main_v2) (V m c main_v3) (V m c main_v4) := by
  refine (dats m 0 c).arrAt_eq_of_after_last 3 t0_0 (by decide +kernel) _ fun j => ?_
  blk_simp
  rw [after_3]
end Cert.Proof.KI
end
-- ==== Proof.Value.RefRows.lean ====
module
public import proofs.«01_k».proof.Proof.Value.Spec
public import proofs.«01_k».proof.Proof.Gen.ReferenceIdeal.Frame

/-! The reference's payloads, read at an index: the rows of the plain description. -/

@[expose] public section
set_option maxRecDepth 16384
noncomputable section
namespace Cert.Proof.RV
open Cert.ReferenceIdeal Cert.ReferenceIdeal.Gen Cert.Proof.Val
open Idealize.ShloMosaic Idealize.ShloMosaic.TcCoe Idealize.ShloMosaic.Tactic
open Idealize.SL.Sem

variable (x0 : FVec Ideal S6x128x512 .fp8e4m3) (x1 : FVec Ideal S6x128x1 .f32) (x2 : FVec Ideal S32x512 .f32)
  (x3 : FVec Ideal S16384x7168 .fp8e4m3) (x4 x5 : FVec Ideal S1x7168 .f32)

/-- The first affine map. -/
theorem pay5_at (b : Fin 6) (n : Fin 7) (r : Fin 42) (hr : r.val = b.val * 7 + n.val) (c : Fin 7168) :
    k0_pay5 (F := Ideal) x0 x1 x2 x3 x4 x5 (ix2 r c)
      = (∑ q, winRow (fun b s d => x0 (ix3 b s d)) (fun b s => x1 (ix3 b s 0)) (fun j d => x2 (ix2 j d)) b n q * x3 (ix2 q c)) * x4 (ix2 0 c) + x5 (ix2 0 c) := by
  pointwise [k0_pay5]
  have hd : r.val / 7 = b.val := by omega
  have hm : r.val % 7 = n.val := by omega
  refine congrArg (· * x4 (ix2 0 c) + x5 (ix2 0 c)) (Finset.sum_congr rfl fun q _ => congrArg (· * x3 (ix2 q c)) ?_)
  unfold winRow
  refine congrArg (· + x2 (ix2 _ _)) ?_
  have hb : (⟨r.val / 7, by omega⟩ : Fin 6) = b := Fin.ext hd
  by_cases h : q.val / 512 < 16
  · rw [dif_pos h]
    have hs : (⟨r.val % 7 * 16 + q.val / 512, by omega⟩ : Fin 128) = ⟨16 * n.val + q.val / 512, by omega⟩ := Fin.ext (by show r.val % 7 * 16 + q.val / 512 = 16 * n.val + q.val / 512; omega)
    exact congrArg₂ (· * ·) (congrArg₂ (fun i j => x0 (ix3 i j _)) hb hs) (congrArg₂ (fun i j => x1 (ix3 i j 0)) hb hs)
  · rw [dif_neg h]
    have hs : (⟨(1 + r.val % 7) * 16 + (q.val / 512 - 16), by omega⟩ : Fin 128) = ⟨16 * n.val + q.val / 512, by omega⟩ := Fin.ext (by show (1 + r.val % 7) * 16 + (q.val / 512 - 16) = 16 * n.val + q.val / 512; omega)
    exact congrArg₂ (· * ·) (congrArg₂ (fun i j => x0 (ix3 i j _)) hb hs) (congrArg₂ (fun i j => x1 (ix3 i j 0)) hb hs)

/-- The activation's text over its argument `v33` and the halved value `v29`. -/
theorem act_ref (y : EReal) (v29 v33 : FVec Ideal S42x7168 .f32) (i : S42x7168.Idx)
    (h29 : v29 i = Ideal.ofBits .f32 0x3F000000#32 * y) (h33 : v33 i = gArg y) :
    k0_pay18 (F := Ideal) v29 v33
        (k0_pay11 (F := Ideal) v33 (mulf v33 v33) (addf (mulf (broadcast S42x7168 (Scalar.ofBits .f32 0x38A4B519#32)) (mulf v33 v33)) (broadcast S42x7168 (Scalar.ofBits .f32 0xBA51FB80#32))))
        (k0_pay16 (F := Ideal) v33 (absf v33) (k0_pay12 (F := Ideal) v33) (k0_pay13 (F := Ideal) (absf v33)) (k0_pay14 (F := Ideal) v33) (k0_pay15 (F := Ideal)))
        (k0_pay17 (F := Ideal) (absf v33)) (Scalar.ofBits .f32 0x00000000#32) i
      = gelu y := by
  unfold gelu
  rw [← h29, ← h33]
  rfl

/-- The activation, element by element, of the affine map's value. -/
theorem pay18_at (i : S42x7168.Idx) :
    k0_pay18 (F := Ideal) (k0_pay6 (F := Ideal) x0 x1 x2 x3 x4 x5) (k0_pay7 (F := Ideal) x0 x1 x2 x3 x4 x5)
        (k0_pay11 (F := Ideal) (k0_pay7 (F := Ideal) x0 x1 x2 x3 x4 x5) (k0_pay9 (F := Ideal) x0 x1 x2 x3 x4 x5) (k0_pay10 (F := Ideal) x0 x1 x2 x3 x4 x5))
        (k0_pay16 (F := Ideal) (k0_pay7 (F := Ideal) x0 x1 x2 x3 x4 x5) (k0_pay8 (F := Ideal) x0 x1 x2 x3 x4 x5) (k0_pay12 (F := Ideal) (k0_pay7 (F := Ideal) x0 x1 x2 x3 x4 x5)) (k0_pay13 (F := Ideal) (k0_pay8 (F := Ideal) x0 x1 x2 x3 x4 x5))
          (k0_pay14 (F := Ideal) (k0_pay7 (F := Ideal) x0 x1 x2 x3 x4 x5)) (k0_pay15 (F := Ideal)))
        (k0_pay17 (F := Ideal) (k0_pay8 (F := Ideal) x0 x1 x2 x3 x4 x5)) (Scalar.ofBits .f32 0x00000000#32) i
      = gelu (k0_pay5 (F := Ideal) x0 x1 x2 x3 x4 x5 i) :=
  act_ref _ (k0_pay6 (F := Ideal) x0 x1 x2 x3 x4 x5) (k0_pay7 (F := Ideal) x0 x1 x2 x3 x4 x5) i rfl rfl

variable (v29 v33 v57 v125 : FVec Ideal S42x7168 .f32) (v127 : IVec S42x7168 1) (z : Ideal .f32)

/-- The scale of a row of the activation. -/
theorem pay19_at (r : Fin 42) :
    k0_pay19 (F := Ideal) v29 v33 v57 v125 v127 z (ix2 r 0) = qscale fun c => k0_pay18 (F := Ideal) v29 v33 v57 v125 v127 z (ix2 r c) := by
  pointwise [k0_pay19]
  unfold qscale scaleR
  rw [Ideal.ofBits_one_f32]
  rfl
/-- Its codes. -/
theorem pay20_at (r : Fin 42) (c : Fin 7168) :
    k0_pay20 (F := Ideal) v29 v33 v57 v125 v127 z (ix2 r c) = qcode (fun c => k0_pay18 (F := Ideal) v29 v33 v57 v125 v127 z (ix2 r c)) c := by
  have h := pay19_at v29 v33 v57 v125 v127 z r
  pointwise [k0_pay20, qcode, code, qinv, invR, h]

/-! ## The second half -/

variable (v160 : FVec Ideal S42x1 .f32) (v173 : FVec Ideal S42x7168 .fp8e4m3) (w : FVec Ideal S7168x512 .fp8e4m3) (s b : FVec Ideal S1x512 .f32)

theorem pay21_at (h : Fin 7168 → EReal) (r : Fin 42) (hs : v160 (ix2 r 0) = qscale h) (hc : ∀ c, v173 (ix2 r c) = qcode h c) (d : Fin 512) :
    k0_pay21 (F := Ideal) v160 v173 w s b (ix2 r d) = outRow h (fun c d => w (ix2 c d)) (fun d => s (ix2 0 d)) (fun d => b (ix2 0 d)) d := by
  pointwise [k0_pay21, outRow, hs, hc]
theorem pay22_at (r : Fin 42) : k0_pay22 (F := Ideal) v160 v173 w s b (ix2 r 0) = qscale fun d => k0_pay21 (F := Ideal) v160 v173 w s b (ix2 r d) := by
  pointwise [k0_pay22]
  unfold qscale scaleR
  rw [Ideal.ofBits_one_f32]
  rfl
theorem pay1_at (bb : Fin 6) (n : Fin 7) (r : Fin 42) (hr : r.val = bb.val * 7 + n.val) (d : Fin 512) :
    k0_pay1 (F := Ideal) (k0_pay21 (F := Ideal) v160 v173 w s b) (k0_pay23 (F := Ideal) v160 v173 w s b) (k0_pay24 (F := Ideal) v160 v173 w s b) (Scalar.ofBits .f32 0x00000000#32) (ix3 bb n d)
      = qcode (fun d => k0_pay21 (F := Ideal) v160 v173 w s b (ix2 r d)) d := by
  have h := pay22_at v160 v173 w s b r
  have hr' : (⟨bb.val * 7 + n.val, by omega⟩ : Fin 42) = r := Fin.ext hr.symm
  pointwise [k0_pay1, k0_pay23, k0_pay24, qcode, code, qinv, invR, hr', h]
theorem pay2_at (v : FVec Ideal S42x1 .f32) (bb : Fin 6) (n : Fin 7) (r : Fin 42) (hr : r.val = bb.val * 7 + n.val) : k0_pay2 (F := Ideal) v (ix3 bb 0 n) = v (ix2 r 0) := by
  have hr' : (⟨bb.val * 7 + n.val, by omega⟩ : Fin 42) = r := Fin.ext hr.symm
  pointwise [k0_pay2, hr']
theorem pay4_at (v : FVec Ideal S42x1 .f32) (bb : Fin 6) (n : Fin 7) (r : Fin 42) (hr : r.val = bb.val * 7 + n.val) : k0_pay4 (F := Ideal) v (ix3 bb 0 n) = v (ix2 r 0) := by
  have hr' : (⟨bb.val * 7 + n.val, by omega⟩ : Fin 42) = r := Fin.ext hr.symm
  pointwise [k0_pay4, hr']
theorem pay3_at (v : FVec Ideal S42x7168 .fp8e4m3) (bb : Fin 6) (n : Fin 7) (r : Fin 42) (hr : r.val = bb.val * 7 + n.val) (c : Fin 7168) : k0_pay3 (F := Ideal) v (ix3 bb n c) = v (ix2 r c) := by
  have hr' : (⟨bb.val * 7 + n.val, by omega⟩ : Fin 42) = r := Fin.ext hr.symm
  pointwise [k0_pay3, hr']
end Cert.Proof.RV
end
-- ==== Proof.Value.RefOut.lean ====
module
public import proofs.«01_k».proof.Proof.Value.RefRows
public import Idealize.ShloMosaic.Lib.Pipeline.ValueKit
public import Idealize.ShloMosaic.Lib.Claim

/-! The four results of the reference, row by row, as the plain description of its blocks. -/

@[expose] public section
set_option maxRecDepth 16384
noncomputable section
namespace Cert.Proof.RV
open Cert.ReferenceIdeal Cert.ReferenceIdeal.Gen Cert.Proof.Val
open Idealize.ShloMosaic Idealize.ShloMosaic.TcCoe Idealize.ShloMosaic.Tactic
open Idealize.SL.Sem

variable (x0 : FVec Ideal S6x128x512 .fp8e4m3) (x1 : FVec Ideal S6x128x1 .f32) (x2 : FVec Ideal S32x512 .f32)
  (x3 : FVec Ideal S16384x7168 .fp8e4m3) (x4 x5 : FVec Ideal S1x7168 .f32) (x6 : FVec Ideal S7168x512 .fp8e4m3) (x7 x8 : FVec Ideal S1x512 .f32)

theorem ld0 : View.ld (Val := Elt Ideal) (e' := .fp8e4m3) x0 r0_0 = x0 := View.ld_unit_zero (by funext a; fin_cases a <;> rfl) _ _
theorem ld1 : View.ld (Val := Elt Ideal) (e' := .f32) x1 r0_1 = x1 := View.ld_unit_zero (by funext a; fin_cases a <;> rfl) _ _
theorem ld2 : View.ld (Val := Elt Ideal) (e' := .f32) x2 r0_2 = x2 := View.ld_unit_zero (by funext a; fin_cases a <;> rfl) _ _
theorem ld3 : View.ld (Val := Elt Ideal) (e' := .fp8e4m3) x3 r0_3 = x3 := View.ld_unit_zero (by funext a; fin_cases a <;> rfl) _ _
theorem ld4 : View.ld (Val := Elt Ideal) (e' := .f32) x4 r0_4 = x4 := View.ld_unit_zero (by funext a; fin_cases a <;> rfl) _ _
theorem ld6 : View.ld (Val := Elt Ideal) (e' := .fp8e4m3) x6 r0_5 = x6 := View.ld_unit_zero (by funext a; fin_cases a <;> rfl) _ _
theorem ld7 : View.ld (Val := Elt Ideal) (e' := .f32) x7 r0_6 = x7 := View.ld_unit_zero (by funext a; fin_cases a <;> rfl) _ _

/-- The hidden row of batch `b` and window `n`. -/
def hidR (b : Fin 6) (n : Fin 7) : Fin 7168 → EReal :=
  hidRow (winRow (fun b s d => x0 (ix3 b s d)) (fun b s => x1 (ix3 b s 0)) (fun j d => x2 (ix2 j d)) b n) (fun q d => x3 (ix2 q d)) (fun d => x4 (ix2 0 d)) (fun d => x5 (ix2 0 d))
/-- The row of keys. -/
def outR (b : Fin 6) (n : Fin 7) : Fin 512 → EReal :=
  outRow (hidR x0 x1 x2 x3 x4 x5 b n) (fun q d => x6 (ix2 q d)) (fun d => x7 (ix2 0 d)) (fun d => x8 (ix2 0 d))

theorem row_eq (b : Fin 6) (n : Fin 7) (r : Fin 42) (hr : r.val = b.val * 7 + n.val) :
    (fun c => k0_pay18 (F := Ideal) (k0_pay6 (F := Ideal) x0 x1 x2 x3 x4 x5) (k0_pay7 (F := Ideal) x0 x1 x2 x3 x4 x5)
        (k0_pay11 (F := Ideal) (k0_pay7 (F := Ideal) x0 x1 x2 x3 x4 x5) (k0_pay9 (F := Ideal) x0 x1 x2 x3 x4 x5) (k0_pay10 (F := Ideal) x0 x1 x2 x3 x4 x5))
        (k0_pay16 (F := Ideal) (k0_pay7 (F := Ideal) x0 x1 x2 x3 x4 x5) (k0_pay8 (F := Ideal) x0 x1 x2 x3 x4 x5) (k0_pay12 (F := Ideal) (k0_pay7 (F := Ideal) x0 x1 x2 x3 x4 x5)) (k0_pay13 (F := Ideal) (k0_pay8 (F := Ideal) x0 x1 x2 x3 x4 x5))
          (k0_pay14 (F := Ideal) (k0_pay7 (F := Ideal) x0 x1 x2 x3 x4 x5)) (k0_pay15 (F := Ideal)))
        (k0_pay17 (F := Ideal) (k0_pay8 (F := Ideal) x0 x1 x2 x3 x4 x5)) (Scalar.ofBits .f32 0x00000000#32) (ix2 r c))
      = hidR x0 x1 x2 x3 x4 x5 b n :=
  funext fun c => (pay18_at x0 x1 x2 x3 x4 x5 (ix2 r c)).trans (congrArg gelu (pay5_at x0 x1 x2 x3 x4 x5 b n r hr c))
theorem p31_at (b : Fin 6) (n : Fin 7) (r : Fin 42) (hr : r.val = b.val * 7 + n.val) :
    k0_pay31 (F := Ideal) x0 x1 x2 x3 x4 x5 x6 x7 x8 (ix2 r 0) = qscale (hidR x0 x1 x2 x3 x4 x5 b n) := by
  unfold k0_pay31 k0_pay30 k0_pay29 k0_pay28 k0_pay27 k0_pay26 k0_pay25
  rw [ld0, ld1, ld2, ld3, ld4, ld4]
  exact (pay19_at _ _ _ _ _ _ r).trans (congrArg qscale (row_eq x0 x1 x2 x3 x4 x5 b n r hr))
theorem p32_at (b : Fin 6) (n : Fin 7) (r : Fin 42) (hr : r.val = b.val * 7 + n.val) (c : Fin 7168) :
    k0_pay32 (F := Ideal) x0 x1 x2 x3 x4 x5 x6 x7 x8 (ix2 r c) = qcode (hidR x0 x1 x2 x3 x4 x5 b n) c := by
  unfold k0_pay32 k0_pay30 k0_pay29 k0_pay28 k0_pay27 k0_pay26 k0_pay25
  rw [ld0, ld1, ld2, ld3, ld4, ld4]
  exact (pay20_at _ _ _ _ _ _ r c).trans (congrArg (fun h => qcode h c) (row_eq x0 x1 x2 x3 x4 x5 b n r hr))
theorem row2_eq (b : Fin 6) (n : Fin 7) (r : Fin 42) (hr : r.val = b.val * 7 + n.val) :
    (fun d => k0_pay21 (F := Ideal) (k0_pay31 (F := Ideal) x0 x1 x2 x3 x4 x5 x6 x7 x8) (k0_pay32 (F := Ideal) x0 x1 x2 x3 x4 x5 x6 x7 x8) x6 x7 x8 (ix2 r d))
      = outR x0 x1 x2 x3 x4 x5 x6 x7 x8 b n :=
  funext fun d => pay21_at _ _ x6 x7 x8 (hidR x0 x1 x2 x3 x4 x5 b n) r (p31_at x0 x1 x2 x3 x4 x5 x6 x7 x8 b n r hr) (p32_at x0 x1 x2 x3 x4 x5 x6 x7 x8 b n r hr) d

theorem out9_at (b : Fin 6) (n : Fin 7) (d : Fin 512) : out0_9 (F := Ideal) x0 x1 x2 x3 x4 x5 x6 x7 x8 (ix3 b n d) = qcode (outR x0 x1 x2 x3 x4 x5 x6 x7 x8 b n) d := by
  unfold out0_9
  rw [View.canon_cons_unit_zero (by funext a; fin_cases a <;> rfl), ld6, ld7, ld7]
  exact (pay1_at _ _ x6 x7 x8 b n ⟨b.val * 7 + n.val, by omega⟩ rfl d).trans (congrArg (fun h => qcode h d) (row2_eq x0 x1 x2 x3 x4 x5 x6 x7 x8 b n _ rfl))
theorem out10_at (b : Fin 6) (n : Fin 7) : out0_10 (F := Ideal) x0 x1 x2 x3 x4 x5 x6 x7 x8 (ix3 b 0 n) = qscale (outR x0 x1 x2 x3 x4 x5 x6 x7 x8 b n) := by
  unfold out0_10
  rw [View.canon_cons_unit_zero (by funext a; fin_cases a <;> rfl), ld6, ld7, ld7]
  exact (pay2_at _ b n ⟨b.val * 7 + n.val, by omega⟩ rfl).trans ((pay22_at _ _ x6 x7 x8 _).trans (congrArg qscale (row2_eq x0 x1 x2 x3 x4 x5 x6 x7 x8 b n _ rfl)))
theorem out11_at (b : Fin 6) (n : Fin 7) (d : Fin 7168) : out0_11 (F := Ideal) x0 x1 x2 x3 x4 x5 x6 x7 x8 (ix3 b n d) = qcode (hidR x0 x1 x2 x3 x4 x5 b n) d := by
  unfold out0_11
  rw [View.canon_cons_unit_zero (by funext a; fin_cases a <;> rfl)]
  exact (pay3_at _ b n ⟨b.val * 7 + n.val, by omega⟩ rfl d).trans (p32_at x0 x1 x2 x3 x4 x5 x6 x7 x8 b n _ rfl d)
theorem out12_at (b : Fin 6) (n : Fin 7) : out0_12 (F := Ideal) x0 x1 x2 x3 x4 x5 x6 x7 x8 (ix3 b 0 n) = qscale (hidR x0 x1 x2 x3 x4 x5 b n) := by
  unfold out0_12
  rw [View.canon_cons_unit_zero (by funext a; fin_cases a <;> rfl)]
  exact (pay4_at _ b n ⟨b.val * 7 + n.val, by omega⟩ rfl).trans (p31_at x0 x1 x2 x3 x4 x5 x6 x7 x8 b n _ rfl)
end Cert.Proof.RV
end
-- ==== Proof.Value.RefArgs.lean ====
module
public import proofs.«01_k».proof.Proof.Value.RefOut

/-! The reference's operands at the region's entry, and its four results after the run. -/

@[expose] public section
noncomputable section
namespace Cert.Proof.RV
open Cert.ReferenceIdeal Cert.ReferenceIdeal.Gen Cert.Proof.Val
open Idealize.ShloMosaic Idealize.ShloMosaic.TcCoe Idealize.ShloMosaic.Tactic
open Idealize.SL.Sem

variable (m : (ℓ : Loc nD τ sig) → Buf (Elt Ideal) ℓ) (c : Dev nD)

theorem v0_eq : V m c main_v0 = shapeCast S6x128x512 (m ((c.tc : Thread nD τ).loc main_arg0)) shapeCasts_S6x128x1x512_S6x128x512 := by
  unfold_abbrev_sides
  after_results
  rfl
theorem v1_eq : V m c main_v1 = shapeCast S16384x7168 (m ((c.tc : Thread nD τ).loc main_arg3)) shapeCasts_S32x512x7168_S16384x7168 := by
  unfold_abbrev_sides
  after_results
  rfl
theorem v2_eq : V m c main_v2 = shapeCast S1x7168 (m ((c.tc : Thread nD τ).loc main_arg4)) shapeCasts_S7168_S1x7168 := by
  unfold_abbrev_sides
  after_results
  rfl
theorem v3_eq : V m c main_v3 = shapeCast S1x7168 (m ((c.tc : Thread nD τ).loc main_arg5)) shapeCasts_S7168_S1x7168 := by
  unfold_abbrev_sides
  after_results
  rfl
theorem v4_eq : V m c main_v4 = shapeCast S1x512 (m ((c.tc : Thread nD τ).loc main_arg7)) shapeCasts_S512_S1x512 := by
  unfold_abbrev_sides
  after_results
  rfl
theorem v5_eq : V m c main_v5 = shapeCast S1x512 (m ((c.tc : Thread nD τ).loc main_arg8)) shapeCasts_S512_S1x512 := by
  unfold_abbrev_sides
  after_results
  rfl

/-! The one point's block of an operand is the operand. -/

theorem blk0 : iblk m c 0 t0_0 = V m c main_v0 :=
  funext fun y => congrArg (V m c main_v0) (funext fun a => Fin.ext (Pipeline.Window.rect_emb_val_of_index_zero _ _ _ (by revert a; decide +kernel) _))
theorem blk1 : iblk m c 1 t0_0 = V m c main_arg1 :=
  funext fun y => congrArg (V m c main_arg1) (funext fun a => Fin.ext (Pipeline.Window.rect_emb_val_of_index_zero _ _ _ (by revert a; decide +kernel) _))
theorem blk2 : iblk m c 2 t0_0 = V m c main_arg2 :=
  funext fun y => congrArg (V m c main_arg2) (funext fun a => Fin.ext (Pipeline.Window.rect_emb_val_of_index_zero _ _ _ (by revert a; decide +kernel) _))
theorem blk3 : iblk m c 3 t0_0 = V m c main_v1 :=
  funext fun y => congrArg (V m c main_v1) (funext fun a => Fin.ext (Pipeline.Window.rect_emb_val_of_index_zero _ _ _ (by revert a; decide +kernel) _))
theorem blk4 : iblk m c 4 t0_0 = V m c main_v2 :=
  funext fun y => congrArg (V m c main_v2) (funext fun a => Fin.ext (Pipeline.Window.rect_emb_val_of_index_zero _ _ _ (by revert a; decide +kernel) _))
theorem blk5 : iblk m c 5 t0_0 = V m c main_v3 :=
  funext fun y => congrArg (V m c main_v3) (funext fun a => Fin.ext (Pipeline.Window.rect_emb_val_of_index_zero _ _ _ (by revert a; decide +kernel) _))
theorem blk6 : iblk m c 6 t0_0 = V m c main_arg6 :=
  funext fun y => congrArg (V m c main_arg6) (funext fun a => Fin.ext (Pipeline.Window.rect_emb_val_of_index_zero _ _ _ (by revert a; decide +kernel) _))
theorem blk7 : iblk m c 7 t0_0 = V m c main_v4 :=
  funext fun y => congrArg (V m c main_v4) (funext fun a => Fin.ext (Pipeline.Window.rect_emb_val_of_index_zero _ _ _ (by revert a; decide +kernel) _))
theorem blk8 : iblk m c 8 t0_0 = V m c main_v5 :=
  funext fun y => congrArg (V m c main_v5) (funext fun a => Fin.ext (Pipeline.Window.rect_emb_val_of_index_zero _ _ _ (by revert a; decide +kernel) _))

/-! The results' arrays. -/

theorem arr9 : (dats m 0 c).arrAt 9 cfg0.N = out0_9 (F := Ideal) (V m c main_v0) (V m c main_arg1) (V m c main_arg2) (V m c main_v1) (V m c main_v2) (V m c main_v3) (V m c main_arg6) (V m c main_v4) (V m c main_v5) := by
  refine (dats m 0 c).arrAt_eq_of_after_last 9 t0_0 (by decide +kernel) _ fun j => ?_
  blk_simp
  rw [after0_9, blk0, blk1, blk2, blk3, blk4, blk5, blk6, blk7, blk8]
theorem arr10 : (dats m 0 c).arrAt 10 cfg0.N = out0_10 (F := Ideal) (V m c main_v0) (V m c main_arg1) (V m c main_arg2) (V m c main_v1) (V m c main_v2) (V m c main_v3) (V m c main_arg6) (V m c main_v4) (V m c main_v5) := by
  refine (dats m 0 c).arrAt_eq_of_after_last 10 t0_0 (by decide +kernel) _ fun j => ?_
  blk_simp
  rw [after0_10, blk0, blk1, blk2, blk3, blk4, blk5, blk6, blk7, blk8]
theorem arr11 : (dats m 0 c).arrAt 11 cfg0.N = out0_11 (F := Ideal) (V m c main_v0) (V m c main_arg1) (V m c main_arg2) (V m c main_v1) (V m c main_v2) (V m c main_v3) (V m c main_arg6) (V m c main_v4) (V m c main_v5) := by
  refine (dats m 0 c).arrAt_eq_of_after_last 11 t0_0 (by decide +kernel) _ fun j => ?_
  blk_simp
  rw [after0_11, blk0, blk1, blk2, blk3, blk4, blk5, blk6, blk7, blk8]
theorem arr12 : (dats m 0 c).arrAt 12 cfg0.N = out0_12 (F := Ideal) (V m c main_v0) (V m c main_arg1) (V m c main_arg2) (V m c main_v1) (V m c main_v2) (V m c main_v3) (V m c main_arg6) (V m c main_v4) (V m c main_v5) := by
  refine (dats m 0 c).arrAt_eq_of_after_last 12 t0_0 (by decide +kernel) _ fun j => ?_
  blk_simp
  rw [after0_12, blk0, blk1, blk2, blk3, blk4, blk5, blk6, blk7, blk8]
end Cert.Proof.RV
end
-- ==== Proof.Value.Agree.lean ====
module
public import proofs.«01_k».proof.Proof.Value.Args
public import proofs.«01_k».proof.Proof.Value.RefArgs

/-! On the same arguments the kernel's rows are the reference's. -/

@[expose] public section
noncomputable section
namespace Cert.Proof.Val
open Idealize.ShloMosaic Idealize.ShloMosaic.TcCoe Idealize.ShloMosaic.Tactic
open Idealize.SL.Sem

/-! ## The two programs' reshapes of one argument -/

theorem keys_agree (x : Cert.KernelIdeal.S6x128x1x512.Idx → EReal) (x' : Cert.ReferenceIdeal.S6x128x1x512.Idx → EReal) (h : x' = x)
    (hk : Cert.KernelIdeal.S6x128x1x512.ShapeCasts Cert.KernelIdeal.S768x512) (hr : Cert.ReferenceIdeal.S6x128x1x512.ShapeCasts Cert.ReferenceIdeal.S6x128x512)
    (b : Fin 6) (s : Fin 128) (d : Fin 512) :
    shapeCast Cert.KernelIdeal.S768x512 x hk (ix2 ⟨128 * b.val + s.val, by omega⟩ d) = shapeCast Cert.ReferenceIdeal.S6x128x512 x' hr (ix3 b s d) := by
  subst h
  refine (shapeCast_apply _ _ _ (ix4 b s 0 d) ?_).trans (shapeCast_apply _ _ _ (ix4 b s 0 d) ?_).symm
  · erw [Shape.rowMajor_val_four, Shape.rowMajor_val_two]
    show ((b.val * 128 + s.val) * 1 + 0) * 512 + d.val = (128 * b.val + s.val) * 512 + d.val; omega
  · erw [Shape.rowMajor_val_four, Shape.rowMajor_val_three]
    show ((b.val * 128 + s.val) * 1 + 0) * 512 + d.val = (b.val * 128 + s.val) * 512 + d.val; omega
theorem scales_agree (x : Cert.KernelIdeal.S6x128x1.Idx → EReal) (x' : Cert.ReferenceIdeal.S6x128x1.Idx → EReal) (h : x' = x)
    (hk : Cert.KernelIdeal.S6x128x1.ShapeCasts Cert.KernelIdeal.S6x1x128) (b : Fin 6) (s : Fin 128) :
    shapeCast Cert.KernelIdeal.S6x1x128 x hk (ix3 b 0 s) = x' (ix3 b s 0) := by
  subst h
  refine shapeCast_apply _ _ _ (ix3 b s 0) ?_
  erw [Shape.rowMajor_val_three, Shape.rowMajor_val_three]
  show (b.val * 128 + s.val) * 1 + 0 = (b.val * 1 + 0) * 128 + s.val; omega

theorem hid_congr {K K' : Fin 6 → Fin 128 → Fin 512 → EReal} {S S' : Fin 6 → Fin 128 → EReal} {P P' : Fin 32 → Fin 512 → EReal}
    {W W' : Fin 16384 → Fin 7168 → EReal} {s s' a a' : Fin 7168 → EReal} (hK : ∀ b t d, K b t d = K' b t d) (hS : ∀ b t, S b t = S' b t)
    (hP : ∀ j d, P j d = P' j d) (hW : ∀ q d, W q d = W' q d) (hs : ∀ d, s d = s' d) (ha : ∀ d, a d = a' d) (b : Fin 6) (n : Fin 7) :
    hidRow (winRow K S P b n) W s a = hidRow (winRow K' S' P' b n) W' s' a' := by
  obtain rfl : K = K' := funext fun _ => funext fun _ => funext fun _ => hK _ _ _
  obtain rfl : S = S' := funext fun _ => funext fun _ => hS _ _
  obtain rfl : P = P' := funext fun _ => funext fun _ => hP _ _
  obtain rfl : W = W' := funext fun _ => funext fun _ => hW _ _
  obtain rfl : s = s' := funext fun _ => hs _
  obtain rfl : a = a' := funext fun _ => ha _
  rfl
theorem out_congr {h h' : Fin 7168 → EReal} {W W' : Fin 7168 → Fin 512 → EReal} {s s' a a' : Fin 512 → EReal} (hh : h = h')
    (hW : ∀ q d, W q d = W' q d) (hs : ∀ d, s d = s' d) (ha : ∀ d, a d = a' d) : outRow h W s a = outRow h' W' s' a' := by
  obtain rfl : W = W' := funext fun _ => funext fun _ => hW _ _
  obtain rfl : s = s' := funext fun _ => hs _
  obtain rfl : a = a' := funext fun _ => ha _
  rw [hh]

/-! ## The rows -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are given the same arguments. -/
structure Same : Prop where
  h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- A reshape that both programs do. -/
theorem cast_agree {s t : Shape} (x x' : s.Idx → EReal) (h : x' = x) (hk hr : s.ShapeCasts t) (i : t.Idx) : shapeCast t x hk i = shapeCast t x' hr i := by
  subst h; rfl

open Cert.KernelIdeal in
theorem hid_agree (h : Same m m' c) (b : Fin 6) (n : Fin 7) :
    KI.hidW c (Gen.V m c main_v0) (Gen.V m c main_v1) (Gen.V m c main_arg2) (Gen.V m c main_v2) (Gen.V m c main_v3) (Gen.V m c main_v4) b n
      = RV.hidR (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2)
          (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3) b n := by
  rw [KI.v0_eq, KI.v1_eq, Gen.V_main_arg2, KI.v2_eq, KI.v3_eq, KI.v4_eq, RV.v0_eq, Cert.ReferenceIdeal.Gen.V_main_arg1, Cert.ReferenceIdeal.Gen.V_main_arg2, RV.v1_eq, RV.v2_eq, RV.v3_eq]
  refine hid_congr (fun b t d => keys_agree _ _ h.h0 _ _ b t d) (fun b t => scales_agree _ _ h.h1 _ b t) (fun j d => (congrFun h.h2 (ix2 j d)).symm)
    (fun q d => cast_agree _ _ h.h3 _ _ _) (fun d => cast_agree _ _ h.h4 _ _ _) (fun d => cast_agree _ _ h.h5 _ _ _) b n

open Cert.KernelIdeal in
theorem out_agree (h : Same m m' c) (b : Fin 6) (n : Fin 7) :
    KI.outW c (Gen.V m c main_v0) (Gen.V m c main_v1) (Gen.V m c main_arg2) (Gen.V m c main_v2) (Gen.V m c main_v3) (Gen.V m c main_v4) (Gen.V m c main_arg6) (Gen.V m c main_v5) (Gen.V m c main_v6) b n
      = RV.outR (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2)
          (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3)
          (Cert.ReferenceIdeal.Gen.V m' c Cert.ReferenceIdeal.main_arg6) (Cert.ReferenceIdeal.Gen.V m' c Cert.ReferenceIdeal.main_v4) (Cert.ReferenceIdeal.Gen.V m' c Cert.ReferenceIdeal.main_v5) b n := by
  unfold KI.outW RV.outR
  refine out_congr (hid_agree m m' c h b n) ?_ ?_ ?_
  · rw [Gen.V_main_arg6, Cert.ReferenceIdeal.Gen.V_main_arg6]; exact fun q d => (congrFun h.h6 (ix2 q d)).symm
  · rw [KI.v5_eq, RV.v4_eq]; exact fun d => cast_agree _ _ h.h7 _ _ _
  · rw [KI.v6_eq, RV.v5_eq]; exact fun d => cast_agree _ _ h.h8 _ _ _
end Cert.Proof.Val
end
-- ==== Proof.Value.Final.lean ====
module
public import proofs.«01_k».proof.Defs
public import proofs.«01_k».proof.Proof.Run.Frames
public import proofs.«01_k».proof.Proof.Gen.ReferenceIdeal.Frame
public import proofs.«01_k».proof.Proof.Value.Agree

/-! On the same arguments the four results of the kernel are the reference's. -/

@[expose] public section
noncomputable section
namespace Cert.Proof.Val
open Idealize.ShloMosaic Idealize.ShloMosaic.TcCoe Idealize.ShloMosaic.Tactic
open Idealize.SL.Sem
open Cert.KernelIdeal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- An array of one scale per row is determined by its values at `(b, 0, n)`. -/
theorem ext_scale {f g : (⟨3, ![6, 1, 7]⟩ : Shape).Idx → EReal} (h : ∀ b n, f (ix3 b 0 n) = g (ix3 b 0 n)) : f = g := by
  funext j
  have hj : j = ix3 (n0 := 6) (n1 := 1) (n2 := 7) (j 0) 0 (j 2) :=
    (eq_ix3 j).trans (congrArg (fun z : Fin 1 => ix3 (n0 := 6) (n1 := 1) (n2 := 7) (j 0) z (j 2)) (Subsingleton.elim (α := Fin 1) _ _))
  rw [hj]; exact h _ _
/-- An array of rows is determined by its values at `(b, n, d)`. -/
theorem ext_code {k : ℕ} {f g : (⟨3, ![6, 7, k]⟩ : Shape).Idx → EReal} (h : ∀ b n d, f (ix3 b n d) = g (ix3 b n d)) : f = g := by
  funext j
  rw [eq_ix3 j]; exact h _ _ _

/-- The output codes. -/
theorem same9 (h : Same m m' c) :
    Cert.ReferenceIdeal.Gen.out0_9 (F := Ideal) (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2) (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3) (Cert.ReferenceIdeal.Gen.V m' c Cert.ReferenceIdeal.main_arg6) (Cert.ReferenceIdeal.Gen.V m' c Cert.ReferenceIdeal.main_v4) (Cert.ReferenceIdeal.Gen.V m' c Cert.ReferenceIdeal.main_v5)
      = KI.out9 (F := Ideal) c (Gen.V m c main_v0) (Gen.V m c main_v1) (Gen.V m c main_arg2) (Gen.V m c main_v2) (Gen.V m c main_v3) (Gen.V m c main_v4) (Gen.V m c main_arg6) (Gen.V m c main_v5) (Gen.V m c main_v6) := by
  refine ext_code fun b n d => ?_
  refine (RV.out9_at _ _ _ _ _ _ _ _ _ b n d).trans (Eq.trans ?_ (KI.out9_at c _ _ _ _ _ _ _ _ _ b n d).symm)
  exact congrArg (fun r => qcode r d) (out_agree m m' c h b n).symm
/-- The output scales. -/
theorem same10 (h : Same m m' c) :
    Cert.ReferenceIdeal.Gen.out0_10 (F := Ideal) (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2) (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3) (Cert.ReferenceIdeal.Gen.V m' c Cert.ReferenceIdeal.main_arg6) (Cert.ReferenceIdeal.Gen.V m' c Cert.ReferenceIdeal.main_v4) (Cert.ReferenceIdeal.Gen.V m' c Cert.ReferenceIdeal.main_v5)
      = KI.out10 (F := Ideal) c (Gen.V m c main_v0) (Gen.V m c main_v1) (Gen.V m c main_arg2) (Gen.V m c main_v2) (Gen.V m c main_v3) (Gen.V m c main_v4) (Gen.V m c main_arg6) (Gen.V m c main_v5) (Gen.V m c main_v6) := by
  refine ext_scale fun b n => ?_
  refine (RV.out10_at _ _ _ _ _ _ _ _ _ b n).trans (Eq.trans ?_ (KI.out10_at c _ _ _ _ _ _ _ _ _ b n).symm)
  exact congrArg (fun r => qscale r) (out_agree m m' c h b n).symm
/-- The hidden codes. -/
theorem same11 (h : Same m m' c) :
    Cert.ReferenceIdeal.Gen.out0_11 (F := Ideal) (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2) (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3) (Cert.ReferenceIdeal.Gen.V m' c Cert.ReferenceIdeal.main_arg6) (Cert.ReferenceIdeal.Gen.V m' c Cert.ReferenceIdeal.main_v4) (Cert.ReferenceIdeal.Gen.V m' c Cert.ReferenceIdeal.main_v5)
      = KI.out11 (F := Ideal) c (Gen.V m c main_v0) (Gen.V m c main_v1) (Gen.V m c main_arg2) (Gen.V m c main_v2) (Gen.V m c main_v3) (Gen.V m c main_v4) := by
  refine ext_code fun b n d => ?_
  refine (RV.out11_at _ _ _ _ _ _ _ _ _ b n d).trans (Eq.trans ?_ (KI.out11_at c _ _ _ _ _ _ b n d).symm)
  exact congrArg (fun r => qcode r d) (hid_agree m m' c h b n).symm
/-- The hidden scales. -/
theorem same12 (h : Same m m' c) :
    Cert.ReferenceIdeal.Gen.out0_12 (F := Ideal) (Cert.ReferenceIdeal.Gen.V m' c Cert.ReferenceIdeal.main_v0) (Cert.ReferenceIdeal.Gen.V m' c Cert.ReferenceIdeal.main_arg1) (Cert.ReferenceIdeal.Gen.V m' c Cert.ReferenceIdeal.main_arg2) (Cert.ReferenceIdeal.Gen.V m' c Cert.ReferenceIdeal.main_v1) (Cert.ReferenceIdeal.Gen.V m' c Cert.ReferenceIdeal.main_v2) (Cert.ReferenceIdeal.Gen.V m' c Cert.ReferenceIdeal.main_v3) (Cert.ReferenceIdeal.Gen.V m' c Cert.ReferenceIdeal.main_arg6) (Cert.ReferenceIdeal.Gen.V m' c Cert.ReferenceIdeal.main_v4) (Cert.ReferenceIdeal.Gen.V m' c Cert.ReferenceIdeal.main_v5)
      = KI.out12 (F := Ideal) c (Gen.V m c main_v0) (Gen.V m c main_v1) (Gen.V m c main_arg2) (Gen.V m c main_v2) (Gen.V m c main_v3) (Gen.V m c main_v4) := by
  refine ext_scale fun b n => ?_
  refine (RV.out12_at _ _ _ _ _ _ _ _ _ b n).trans (Eq.trans ?_ (KI.out12_at c _ _ _ _ _ _ b n).symm)
  exact congrArg (fun r => qscale r) (hid_agree m m' c h b n).symm

/-! ## The claim -/

theorem algebraic : Cert.algebraic_KernelIdeal_ReferenceIdeal (hKernelIdeal := Cert.KernelIdeal.Gen.facts) (hReferenceIdeal := Cert.ReferenceIdeal.Gen.facts) := by
  intro m g m' g' _ hagree
  have hs : ∀ c, Same m m' c := fun c =>
    let h := hagree c
    ⟨h.1, h.2.1, h.2.2.1, h.2.2.2.1, h.2.2.2.2.1, h.2.2.2.2.2.1, h.2.2.2.2.2.2.1, h.2.2.2.2.2.2.2.1, h.2.2.2.2.2.2.2.2⟩
  refine ⟨fun c => KI.out9 (F := Ideal) c (Gen.V m c main_v0) (Gen.V m c main_v1) (Gen.V m c main_arg2) (Gen.V m c main_v2) (Gen.V m c main_v3) (Gen.V m c main_v4) (Gen.V m c main_arg6) (Gen.V m c main_v5) (Gen.V m c main_v6),
    fun c => KI.out10 (F := Ideal) c (Gen.V m c main_v0) (Gen.V m c main_v1) (Gen.V m c main_arg2) (Gen.V m c main_v2) (Gen.V m c main_v3) (Gen.V m c main_v4) (Gen.V m c main_arg6) (Gen.V m c main_v5) (Gen.V m c main_v6),
    fun c => KI.out11 (F := Ideal) c (Gen.V m c main_v0) (Gen.V m c main_v1) (Gen.V m c main_arg2) (Gen.V m c main_v2) (Gen.V m c main_v3) (Gen.V m c main_v4),
    fun c => KI.out12 (F := Ideal) c (Gen.V m c main_v0) (Gen.V m c main_v1) (Gen.V m c main_arg2) (Gen.V m c main_v2) (Gen.V m c main_v3) (Gen.V m c main_v4), ?_, ?_⟩
  · refine θ_run_mono (θ_run_and (KI.run_main m g) (KI.frame_main m g)) fun r hr c => ?_
    obtain ⟨⟨h, _⟩, hf, _⟩ := hr
    exact ⟨(h.out_eq c 0).trans (KI.arr0 m c), (h.out_eq c 1).trans (KI.arr1 m c), (h.out_eq c 2).trans (KI.arr2 m c), (h.out_eq c 3).trans (KI.arr3 m c), hf c⟩
  · refine θ_run_mono (θ_run_and (Cert.ReferenceIdeal.Gen.run_main m' g') (Cert.ReferenceIdeal.Gen.frame m' g')) fun r hr c => ?_
    obtain ⟨h, hf, _⟩ := hr
    exact ⟨(h.out_eq c 9).trans ((RV.arr9 m' c).trans (same9 m m' c (hs c))), (h.out_eq c 10).trans ((RV.arr10 m' c).trans (same10 m m' c (hs c))),
      (h.out_eq c 11).trans ((RV.arr11 m' c).trans (same11 m m' c (hs c))), (h.out_eq c 12).trans ((RV.arr12 m' c).trans (same12 m m' c (hs c))), hf c⟩
end Cert.Proof.Val
end
-- ==== Proof.lean ====
module

public import proofs.«01_k».proof.Defs
public import proofs.«01_k».proof.Proof.Run.Frames
public import proofs.«01_k».proof.Proof.Gen.ReferenceIdeal.Frame
public import proofs.«01_k».proof.Proof.Value.Final

@[expose] public section

noncomputable section

namespace Cert.Proof

open Idealize.ShloMosaic Idealize.SL.Sem

/-- The reference's frame. -/
theorem frame_ReferenceIdeal : Cert.quiescent_ReferenceIdeal (hReferenceIdeal := Cert.ReferenceIdeal.Gen.facts) :=
  fun m g _ => Cert.ReferenceIdeal.Gen.frame m g

theorem claim : Cert.Claim := ⟨Cert.Kernel.Gen.facts, Cert.KernelIdeal.Gen.facts, Cert.ReferenceIdeal.Gen.facts,
  frame_Kernel, frame_KernelIdeal, frame_ReferenceIdeal, trivial, Val.algebraic⟩

end Cert.Proof

end
